-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![8192, 2048]⟩ ⟨2, ![8192, 8192]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![2048, 4096]⟩ ⟨2, ![8192, 4096]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = Layout.block ⟨2, ![2048, 4096]⟩ ⟨2, ![8192, 4096]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x2048 : Shape := ⟨2, ![8192, 2048]⟩
abbrev S2048x4096 : Shape := ⟨2, ![2048, 4096]⟩
abbrev S2x12x512x2048 : Shape := ⟨4, ![2, 12, 512, 2048]⟩
abbrev S2x4x512x2048 : Shape := ⟨4, ![2, 4, 512, 2048]⟩
abbrev S512x2048 : Shape := ⟨2, ![512, 2048]⟩
abbrev S512x1024 : Shape := ⟨2, ![512, 1024]⟩
abbrev S2x2x1024x2048 : Shape := ⟨4, ![2, 2, 1024, 2048]⟩
abbrev S2x12 : Shape := ⟨2, ![2, 12]⟩
abbrev S_ : Shape := ⟨0, ![]⟩
abbrev S1x1x1024x2048 : Shape := ⟨4, ![1, 1, 1024, 2048]⟩
abbrev S1024x2048 : Shape := ⟨2, ![1024, 2048]⟩
abbrev S1x1 : Shape := ⟨2, ![1, 1]⟩
abbrev S1x1x512x2048 : Shape := ⟨4, ![1, 1, 512, 2048]⟩

abbrev nBuf : Space → Nat
  | .hbm => 5
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048x4096, .f32⟩
  | .hbm, ⟨2, _⟩ => ⟨S2048x4096, .f32⟩
  | .hbm, ⟨3, _⟩ => ⟨S2x12x512x2048, .f32⟩
  | .hbm, ⟨4, _⟩ => ⟨S2x4x512x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x1024, .f32⟩
  | .local _ .vmem, ⟨4, _⟩ => ⟨S2x2x1024x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 2 → Bool
  | ⟨0, _⟩ => false
  | ⟨1, _⟩ => true
  | _ => false

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  (ofTc nBuf bufTy 2 49 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩
abbrev main_v1_2 : Ref sig .tc := ⟨.hbm, 4, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
@[reducible] def k0_t1_loop : Scf.Loop 32 :=
  let c0_i32_42 : BitVec 32 := 0#32
  let c16_i32 : BitVec 32 := 16#32
  let v42 : BitVec 32 := Scalar.addi c0_i32_42 c16_i32
  let c1_i32_43 : BitVec 32 := 1#32
  ⟨c0_i32_42, v42, c1_i32_43⟩
def k0_off1 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_54 : BitVec 32 := 2#32
  let v63 : BitVec 32 := Scalar.subi v2 c2_i32_54
  let c0_i32_42 : BitVec 32 := 0#32
  let c1_i32_43 : BitVec 32 := 1#32
  let arg13 : BitVec 32 := Scf.iv c0_i32_42 c1_i32_43 k0_t1
  let c0_i32_46 : BitVec 32 := 0#32
  let v44 : BitVec 1 := Scalar.cmpi .sgt arg13 c0_i32_46
  let v45 : BitVec 32 := Scalar.extui v44
  let c0_i32_47 : BitVec 32 := 0#32
  let v46 : BitVec 1 := Scalar.cmpi .slt arg13 c0_i32_47
  let v47 : BitVec 32 := Scalar.extui v46
  let v48 : BitVec 32 := Scalar.subi v45 v47
  let c4_i32_45 : BitVec 32 := 4#32
  let c0_i32_48 : BitVec 32 := 0#32
  let v49 : BitVec 1 := Scalar.cmpi .sgt c4_i32_45 c0_i32_48
  let v50 : BitVec 32 := Scalar.extui v49
  let c0_i32_49 : BitVec 32 := 0#32
  let v51 : BitVec 1 := Scalar.cmpi .slt c4_i32_45 c0_i32_49
  let v52 : BitVec 32 := Scalar.extui v51
  let v53 : BitVec 32 := Scalar.subi v50 v52
  let v54 : BitVec 1 := Scalar.cmpi .ne v48 v53
  let v55 : BitVec 32 := Scalar.remsi arg13 c4_i32_45
  let c0_i32_50 : BitVec 32 := 0#32
  let v56 : BitVec 1 := Scalar.cmpi .ne v55 c0_i32_50
  let v57 : BitVec 1 := Scalar.andi v54 v56
  let v43 : BitVec 32 := Scalar.divsi arg13 c4_i32_45
  let c1_i32_51 : BitVec 32 := 1#32
  let v58 : BitVec 32 := Scalar.subi v43 c1_i32_51
  let v59 : BitVec 32 := Scalar.select v57 v58 v43
  let c1_i32_53 : BitVec 32 := 1#32
  let v62 : BitVec 32 := Scalar.subi v59 c1_i32_53
  let v64 : BitVec 32 := Scalar.subi v63 v62
  let c4_i32_55 : BitVec 32 := 4#32
  let c0_i32_56 : BitVec 32 := 0#32
  let v65 : BitVec 1 := Scalar.cmpi .eq c4_i32_55 c0_i32_56
  let c1_i32_57 : BitVec 32 := 1#32
  let v66 : BitVec 32 := Scalar.select v65 c1_i32_57 c4_i32_55
  let v67 : BitVec 32 := Scalar.remsi v64 v66
  let c0_i32_59 : BitVec 32 := 0#32
  let v69 : BitVec 1 := Scalar.cmpi .slt v67 c0_i32_59
  let c0_i32_60 : BitVec 32 := 0#32
  let v70 : BitVec 1 := Scalar.cmpi .slt v66 c0_i32_60
  let v71 : BitVec 1 := Scalar.xori v69 v70
  let c0_i32_58 : BitVec 32 := 0#32
  let v68 : BitVec 1 := Scalar.cmpi .ne v67 c0_i32_58
  let v72 : BitVec 1 := Scalar.andi v71 v68
  let v73 : BitVec 32 := Scalar.addi v67 v66
  let v74 : BitVec 32 := Scalar.select v72 v73 v67
  let c2048_i32 : BitVec 32 := 2048#32
  let v75 : BitVec 32 := Scalar.muli v74 c2048_i32
  let c4_i32_52 : BitVec 32 := 4#32
  let v60 : BitVec 32 := Scalar.muli v59 c4_i32_52
  let v61 : BitVec 32 := Scalar.subi arg13 v60
  let c512_i32 : BitVec 32 := 512#32
  let v76 : BitVec 32 := Scalar.muli v61 c512_i32
  let v77 : BitVec 32 := Scalar.addi v75 v76
  let c0_i32_61 : BitVec 32 := 0#32
  ![v77.toNat, 0]
def k0_off2 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_54 : BitVec 32 := 2#32
  let v63 : BitVec 32 := Scalar.subi v2 c2_i32_54
  let c0_i32_42 : BitVec 32 := 0#32
  let c1_i32_43 : BitVec 32 := 1#32
  let arg13 : BitVec 32 := Scf.iv c0_i32_42 c1_i32_43 k0_t1
  let c0_i32_46 : BitVec 32 := 0#32
  let v44 : BitVec 1 := Scalar.cmpi .sgt arg13 c0_i32_46
  let v45 : BitVec 32 := Scalar.extui v44
  let c0_i32_47 : BitVec 32 := 0#32
  let v46 : BitVec 1 := Scalar.cmpi .slt arg13 c0_i32_47
  let v47 : BitVec 32 := Scalar.extui v46
  let v48 : BitVec 32 := Scalar.subi v45 v47
  let c4_i32_45 : BitVec 32 := 4#32
  let c0_i32_48 : BitVec 32 := 0#32
  let v49 : BitVec 1 := Scalar.cmpi .sgt c4_i32_45 c0_i32_48
  let v50 : BitVec 32 := Scalar.extui v49
  let c0_i32_49 : BitVec 32 := 0#32
  let v51 : BitVec 1 := Scalar.cmpi .slt c4_i32_45 c0_i32_49
  let v52 : BitVec 32 := Scalar.extui v51
  let v53 : BitVec 32 := Scalar.subi v50 v52
  let v54 : BitVec 1 := Scalar.cmpi .ne v48 v53
  let v55 : BitVec 32 := Scalar.remsi arg13 c4_i32_45
  let c0_i32_50 : BitVec 32 := 0#32
  let v56 : BitVec 1 := Scalar.cmpi .ne v55 c0_i32_50
  let v57 : BitVec 1 := Scalar.andi v54 v56
  let v43 : BitVec 32 := Scalar.divsi arg13 c4_i32_45
  let c1_i32_51 : BitVec 32 := 1#32
  let v58 : BitVec 32 := Scalar.subi v43 c1_i32_51
  let v59 : BitVec 32 := Scalar.select v57 v58 v43
  let c1_i32_53 : BitVec 32 := 1#32
  let v62 : BitVec 32 := Scalar.subi v59 c1_i32_53
  let v64 : BitVec 32 := Scalar.subi v63 v62
  let c4_i32_55 : BitVec 32 := 4#32
  let c0_i32_56 : BitVec 32 := 0#32
  let v65 : BitVec 1 := Scalar.cmpi .eq c4_i32_55 c0_i32_56
  let c1_i32_57 : BitVec 32 := 1#32
  let v66 : BitVec 32 := Scalar.select v65 c1_i32_57 c4_i32_55
  let v67 : BitVec 32 := Scalar.remsi v64 v66
  let c0_i32_59 : BitVec 32 := 0#32
  let v69 : BitVec 1 := Scalar.cmpi .slt v67 c0_i32_59
  let c0_i32_60 : BitVec 32 := 0#32
  let v70 : BitVec 1 := Scalar.cmpi .slt v66 c0_i32_60
  let v71 : BitVec 1 := Scalar.xori v69 v70
  let c0_i32_58 : BitVec 32 := 0#32
  let v68 : BitVec 1 := Scalar.cmpi .ne v67 c0_i32_58
  let v72 : BitVec 1 := Scalar.andi v71 v68
  let v73 : BitVec 32 := Scalar.addi v67 v66
  let v74 : BitVec 32 := Scalar.select v72 v73 v67
  let c2048_i32 : BitVec 32 := 2048#32
  let v75 : BitVec 32 := Scalar.muli v74 c2048_i32
  let c4_i32_52 : BitVec 32 := 4#32
  let v60 : BitVec 32 := Scalar.muli v59 c4_i32_52
  let v61 : BitVec 32 := Scalar.subi arg13 v60
  let c512_i32 : BitVec 32 := 512#32
  let v76 : BitVec 32 := Scalar.muli v61 c512_i32
  let v77 : BitVec 32 := Scalar.addi v75 v76
  let c1024_i32_70 : BitVec 32 := 1024#32
  ![v77.toNat, 1024]
def k0_cond1 (k0_t1 : Fin k0_t1_loop.trips) : BitVec 1 :=
  let c0_i32_42 : BitVec 32 := 0#32
  let c1_i32_43 : BitVec 32 := 1#32
  let arg13 : BitVec 32 := Scf.iv c0_i32_42 c1_i32_43 k0_t1
  let c0_i32_46 : BitVec 32 := 0#32
  let v44 : BitVec 1 := Scalar.cmpi .sgt arg13 c0_i32_46
  let v45 : BitVec 32 := Scalar.extui v44
  let c0_i32_47 : BitVec 32 := 0#32
  let v46 : BitVec 1 := Scalar.cmpi .slt arg13 c0_i32_47
  let v47 : BitVec 32 := Scalar.extui v46
  let v48 : BitVec 32 := Scalar.subi v45 v47
  let c4_i32_45 : BitVec 32 := 4#32
  let c0_i32_48 : BitVec 32 := 0#32
  let v49 : BitVec 1 := Scalar.cmpi .sgt c4_i32_45 c0_i32_48
  let v50 : BitVec 32 := Scalar.extui v49
  let c0_i32_49 : BitVec 32 := 0#32
  let v51 : BitVec 1 := Scalar.cmpi .slt c4_i32_45 c0_i32_49
  let v52 : BitVec 32 := Scalar.extui v51
  let v53 : BitVec 32 := Scalar.subi v50 v52
  let v54 : BitVec 1 := Scalar.cmpi .ne v48 v53
  let v55 : BitVec 32 := Scalar.remsi arg13 c4_i32_45
  let c0_i32_50 : BitVec 32 := 0#32
  let v56 : BitVec 1 := Scalar.cmpi .ne v55 c0_i32_50
  let v57 : BitVec 1 := Scalar.andi v54 v56
  let v43 : BitVec 32 := Scalar.divsi arg13 c4_i32_45
  let c1_i32_51 : BitVec 32 := 1#32
  let v58 : BitVec 32 := Scalar.subi v43 c1_i32_51
  let v59 : BitVec 32 := Scalar.select v57 v58 v43
  let c1_i32_53 : BitVec 32 := 1#32
  let v62 : BitVec 32 := Scalar.subi v59 c1_i32_53
  let c0_i32_83 : BitVec 32 := 0#32
  let v100 : BitVec 1 := Scalar.cmpi .sge v62 c0_i32_83
  let v101 : BitVec 32 := Scalar.extui v100
  let c0_i32_84 : BitVec 32 := 0#32
  let v102 : BitVec 1 := Scalar.cmpi .ne v101 c0_i32_84
  v102

def k0_off3 (k0_t1 : Fin k0_t1_loop.trips) : Fin 2 → Nat :=
  let c0_i32_139 : BitVec 32 := 0#32
  let c0_i32_42 : BitVec 32 := 0#32
  let c1_i32_43 : BitVec 32 := 1#32
  let arg13 : BitVec 32 := Scf.iv c0_i32_42 c1_i32_43 k0_t1
  let c0_i32_46 : BitVec 32 := 0#32
  let v44 : BitVec 1 := Scalar.cmpi .sgt arg13 c0_i32_46
  let v45 : BitVec 32 := Scalar.extui v44
  let c0_i32_47 : BitVec 32 := 0#32
  let v46 : BitVec 1 := Scalar.cmpi .slt arg13 c0_i32_47
  let v47 : BitVec 32 := Scalar.extui v46
  let v48 : BitVec 32 := Scalar.subi v45 v47
  let c4_i32_45 : BitVec 32 := 4#32
  let c0_i32_48 : BitVec 32 := 0#32
  let v49 : BitVec 1 := Scalar.cmpi .sgt c4_i32_45 c0_i32_48
  let v50 : BitVec 32 := Scalar.extui v49
  let c0_i32_49 : BitVec 32 := 0#32
  let v51 : BitVec 1 := Scalar.cmpi .slt c4_i32_45 c0_i32_49
  let v52 : BitVec 32 := Scalar.extui v51
  let v53 : BitVec 32 := Scalar.subi v50 v52
  let v54 : BitVec 1 := Scalar.cmpi .ne v48 v53
  let v55 : BitVec 32 := Scalar.remsi arg13 c4_i32_45
  let c0_i32_50 : BitVec 32 := 0#32
  let v56 : BitVec 1 := Scalar.cmpi .ne v55 c0_i32_50
  let v57 : BitVec 1 := Scalar.andi v54 v56
  let v43 : BitVec 32 := Scalar.divsi arg13 c4_i32_45
  let c1_i32_51 : BitVec 32 := 1#32
  let v58 : BitVec 32 := Scalar.subi v43 c1_i32_51
  let v59 : BitVec 32 := Scalar.select v57 v58 v43
  let c1_i32_53 : BitVec 32 := 1#32
  let v62 : BitVec 32 := Scalar.subi v59 c1_i32_53
  let c4_i32_82 : BitVec 32 := 4#32
  let v98 : BitVec 32 := Scalar.muli v62 c4_i32_82
  let c4_i32_52 : BitVec 32 := 4#32
  let v60 : BitVec 32 := Scalar.muli v59 c4_i32_52
  let v61 : BitVec 32 := Scalar.subi arg13 v60
  let v99 : BitVec 32 := Scalar.addi v98 v61
  ![0, v99.toNat]
def k0_off4 (k0_t1 : Fin k0_t1_loop.trips) : Fin 4 → Nat :=
  let c0_i32_138 : BitVec 32 := 0#32
  let c0_i32_42 : BitVec 32 := 0#32
  let c1_i32_43 : BitVec 32 := 1#32
  let arg13 : BitVec 32 := Scf.iv c0_i32_42 c1_i32_43 k0_t1
  let c0_i32_46 : BitVec 32 := 0#32
  let v44 : BitVec 1 := Scalar.cmpi .sgt arg13 c0_i32_46
  let v45 : BitVec 32 := Scalar.extui v44
  let c0_i32_47 : BitVec 32 := 0#32
  let v46 : BitVec 1 := Scalar.cmpi .slt arg13 c0_i32_47
  let v47 : BitVec 32 := Scalar.extui v46
  let v48 : BitVec 32 := Scalar.subi v45 v47
  let c4_i32_45 : BitVec 32 := 4#32
  let c0_i32_48 : BitVec 32 := 0#32
  let v49 : BitVec 1 := Scalar.cmpi .sgt c4_i32_45 c0_i32_48
  let v50 : BitVec 32 := Scalar.extui v49
  let c0_i32_49 : BitVec 32 := 0#32
  let v51 : BitVec 1 := Scalar.cmpi .slt c4_i32_45 c0_i32_49
  let v52 : BitVec 32 := Scalar.extui v51
  let v53 : BitVec 32 := Scalar.subi v50 v52
  let v54 : BitVec 1 := Scalar.cmpi .ne v48 v53
  let v55 : BitVec 32 := Scalar.remsi arg13 c4_i32_45
  let c0_i32_50 : BitVec 32 := 0#32
  let v56 : BitVec 1 := Scalar.cmpi .ne v55 c0_i32_50
  let v57 : BitVec 1 := Scalar.andi v54 v56
  let v43 : BitVec 32 := Scalar.divsi arg13 c4_i32_45
  let c1_i32_51 : BitVec 32 := 1#32
  let v58 : BitVec 32 := Scalar.subi v43 c1_i32_51
  let v59 : BitVec 32 := Scalar.select v57 v58 v43
  let c4_i32_52 : BitVec 32 := 4#32
  let v60 : BitVec 32 := Scalar.muli v59 c4_i32_52
  let v61 : BitVec 32 := Scalar.subi arg13 v60
  let c0_i32_142 : BitVec 32 := 0#32
  let c0_i32_143 : BitVec 32 := 0#32
  ![0, v61.toNat, 0, 0]
def k0_off5 (k0_t1 : Fin k0_t1_loop.trips) : Fin 4 → Nat :=
  let c0_i32_137 : BitVec 32 := 0#32
  let c0_i32_42 : BitVec 32 := 0#32
  let c1_i32_43 : BitVec 32 := 1#32
  let arg13 : BitVec 32 := Scf.iv c0_i32_42 c1_i32_43 k0_t1
  let c0_i32_46 : BitVec 32 := 0#32
  let v44 : BitVec 1 := Scalar.cmpi .sgt arg13 c0_i32_46
  let v45 : BitVec 32 := Scalar.extui v44
  let c0_i32_47 : BitVec 32 := 0#32
  let v46 : BitVec 1 := Scalar.cmpi .slt arg13 c0_i32_47
  let v47 : BitVec 32 := Scalar.extui v46
  let v48 : BitVec 32 := Scalar.subi v45 v47
  let c4_i32_45 : BitVec 32 := 4#32
  let c0_i32_48 : BitVec 32 := 0#32
  let v49 : BitVec 1 := Scalar.cmpi .sgt c4_i32_45 c0_i32_48
  let v50 : BitVec 32 := Scalar.extui v49
  let c0_i32_49 : BitVec 32 := 0#32
  let v51 : BitVec 1 := Scalar.cmpi .slt c4_i32_45 c0_i32_49
  let v52 : BitVec 32 := Scalar.extui v51
  let v53 : BitVec 32 := Scalar.subi v50 v52
  let v54 : BitVec 1 := Scalar.cmpi .ne v48 v53
  let v55 : BitVec 32 := Scalar.remsi arg13 c4_i32_45
  let c0_i32_50 : BitVec 32 := 0#32
  let v56 : BitVec 1 := Scalar.cmpi .ne v55 c0_i32_50
  let v57 : BitVec 1 := Scalar.andi v54 v56
  let v43 : BitVec 32 := Scalar.divsi arg13 c4_i32_45
  let c1_i32_51 : BitVec 32 := 1#32
  let v58 : BitVec 32 := Scalar.subi v43 c1_i32_51
  let v59 : BitVec 32 := Scalar.select v57 v58 v43
  let c1_i32_53 : BitVec 32 := 1#32
  let v62 : BitVec 32 := Scalar.subi v59 c1_i32_53
  let c4_i32_82 : BitVec 32 := 4#32
  let v98 : BitVec 32 := Scalar.muli v62 c4_i32_82
  let c4_i32_52 : BitVec 32 := 4#32
  let v60 : BitVec 32 := Scalar.muli v59 c4_i32_52
  let v61 : BitVec 32 := Scalar.subi arg13 v60
  let v99 : BitVec 32 := Scalar.addi v98 v61
  let c0_i32_144 : BitVec 32 := 0#32
  let c0_i32_145 : BitVec 32 := 0#32
  ![0, v99.toNat, 0, 0]
def k0_cond3 (k0_t1 : Fin k0_t1_loop.trips) : BitVec 1 :=
  let c0_i32_42 : BitVec 32 := 0#32
  let c1_i32_43 : BitVec 32 := 1#32
  let arg13 : BitVec 32 := Scf.iv c0_i32_42 c1_i32_43 k0_t1
  let c0_i32_46 : BitVec 32 := 0#32
  let v44 : BitVec 1 := Scalar.cmpi .sgt arg13 c0_i32_46
  let v45 : BitVec 32 := Scalar.extui v44
  let c0_i32_47 : BitVec 32 := 0#32
  let v46 : BitVec 1 := Scalar.cmpi .slt arg13 c0_i32_47
  let v47 : BitVec 32 := Scalar.extui v46
  let v48 : BitVec 32 := Scalar.subi v45 v47
  let c4_i32_45 : BitVec 32 := 4#32
  let c0_i32_48 : BitVec 32 := 0#32
  let v49 : BitVec 1 := Scalar.cmpi .sgt c4_i32_45 c0_i32_48
  let v50 : BitVec 32 := Scalar.extui v49
  let c0_i32_49 : BitVec 32 := 0#32
  let v51 : BitVec 1 := Scalar.cmpi .slt c4_i32_45 c0_i32_49
  let v52 : BitVec 32 := Scalar.extui v51
  let v53 : BitVec 32 := Scalar.subi v50 v52
  let v54 : BitVec 1 := Scalar.cmpi .ne v48 v53
  let v55 : BitVec 32 := Scalar.remsi arg13 c4_i32_45
  let c0_i32_50 : BitVec 32 := 0#32
  let v56 : BitVec 1 := Scalar.cmpi .ne v55 c0_i32_50
  let v57 : BitVec 1 := Scalar.andi v54 v56
  let v43 : BitVec 32 := Scalar.divsi arg13 c4_i32_45
  let c1_i32_51 : BitVec 32 := 1#32
  let v58 : BitVec 32 := Scalar.subi v43 c1_i32_51
  let v59 : BitVec 32 := Scalar.select v57 v58 v43
  let c1_i32_53 : BitVec 32 := 1#32
  let v62 : BitVec 32 := Scalar.subi v59 c1_i32_53
  let c2_i32_88 : BitVec 32 := 2#32
  let v108 : BitVec 1 := Scalar.cmpi .eq v62 c2_i32_88
  let v109 : BitVec 32 := Scalar.extui v108
  let c0_i32_89 : BitVec 32 := 0#32
  let v110 : BitVec 1 := Scalar.cmpi .ne v109 c0_i32_89
  v110

def k0_off6 (k0_t1 : Fin k0_t1_loop.trips) : Fin 2 → Nat :=
  let c0_i32_42 : BitVec 32 := 0#32
  let c1_i32_43 : BitVec 32 := 1#32
  let arg13 : BitVec 32 := Scf.iv c0_i32_42 c1_i32_43 k0_t1
  let c0_i32_46 : BitVec 32 := 0#32
  let v44 : BitVec 1 := Scalar.cmpi .sgt arg13 c0_i32_46
  let v45 : BitVec 32 := Scalar.extui v44
  let c0_i32_47 : BitVec 32 := 0#32
  let v46 : BitVec 1 := Scalar.cmpi .slt arg13 c0_i32_47
  let v47 : BitVec 32 := Scalar.extui v46
  let v48 : BitVec 32 := Scalar.subi v45 v47
  let c4_i32_45 : BitVec 32 := 4#32
  let c0_i32_48 : BitVec 32 := 0#32
  let v49 : BitVec 1 := Scalar.cmpi .sgt c4_i32_45 c0_i32_48
  let v50 : BitVec 32 := Scalar.extui v49
  let c0_i32_49 : BitVec 32 := 0#32
  let v51 : BitVec 1 := Scalar.cmpi .slt c4_i32_45 c0_i32_49
  let v52 : BitVec 32 := Scalar.extui v51
  let v53 : BitVec 32 := Scalar.subi v50 v52
  let v54 : BitVec 1 := Scalar.cmpi .ne v48 v53
  let v55 : BitVec 32 := Scalar.remsi arg13 c4_i32_45
  let c0_i32_50 : BitVec 32 := 0#32
  let v56 : BitVec 1 := Scalar.cmpi .ne v55 c0_i32_50
  let v57 : BitVec 1 := Scalar.andi v54 v56
  let v43 : BitVec 32 := Scalar.divsi arg13 c4_i32_45
  let c1_i32_51 : BitVec 32 := 1#32
  let v58 : BitVec 32 := Scalar.subi v43 c1_i32_51
  let v59 : BitVec 32 := Scalar.select v57 v58 v43
  let c4_i32_52 : BitVec 32 := 4#32
  let v60 : BitVec 32 := Scalar.muli v59 c4_i32_52
  let v61 : BitVec 32 := Scalar.subi arg13 v60
  let c512_i32_144 : BitVec 32 := 512#32
  let v176 : BitVec 32 := Scalar.muli v61 c512_i32_144
  let c0_i32_145 : BitVec 32 := 0#32
  ![v176.toNat, 0]
def k0_cond4 (k0_t1 : Fin k0_t1_loop.trips) : BitVec 1 :=
  let c0_i32_42 : BitVec 32 := 0#32
  let c1_i32_43 : BitVec 32 := 1#32
  let arg13 : BitVec 32 := Scf.iv c0_i32_42 c1_i32_43 k0_t1
  let c0_i32_46 : BitVec 32 := 0#32
  let v44 : BitVec 1 := Scalar.cmpi .sgt arg13 c0_i32_46
  let v45 : BitVec 32 := Scalar.extui v44
  let c0_i32_47 : BitVec 32 := 0#32
  let v46 : BitVec 1 := Scalar.cmpi .slt arg13 c0_i32_47
  let v47 : BitVec 32 := Scalar.extui v46
  let v48 : BitVec 32 := Scalar.subi v45 v47
  let c4_i32_45 : BitVec 32 := 4#32
  let c0_i32_48 : BitVec 32 := 0#32
  let v49 : BitVec 1 := Scalar.cmpi .sgt c4_i32_45 c0_i32_48
  let v50 : BitVec 32 := Scalar.extui v49
  let c0_i32_49 : BitVec 32 := 0#32
  let v51 : BitVec 1 := Scalar.cmpi .slt c4_i32_45 c0_i32_49
  let v52 : BitVec 32 := Scalar.extui v51
  let v53 : BitVec 32 := Scalar.subi v50 v52
  let v54 : BitVec 1 := Scalar.cmpi .ne v48 v53
  let v55 : BitVec 32 := Scalar.remsi arg13 c4_i32_45
  let c0_i32_50 : BitVec 32 := 0#32
  let v56 : BitVec 1 := Scalar.cmpi .ne v55 c0_i32_50
  let v57 : BitVec 1 := Scalar.andi v54 v56
  let v43 : BitVec 32 := Scalar.divsi arg13 c4_i32_45
  let c1_i32_51 : BitVec 32 := 1#32
  let v58 : BitVec 32 := Scalar.subi v43 c1_i32_51
  let v59 : BitVec 32 := Scalar.select v57 v58 v43
  let c1_i32_53 : BitVec 32 := 1#32
  let v62 : BitVec 32 := Scalar.subi v59 c1_i32_53
  let c2_i32_90 : BitVec 32 := 2#32
  let v111 : BitVec 1 := Scalar.cmpi .slt v62 c2_i32_90
  let v112 : BitVec 32 := Scalar.extui v111
  let c0_i32_91 : BitVec 32 := 0#32
  let v113 : BitVec 1 := Scalar.cmpi .ne v112 c0_i32_91
  v113

def k0_off7 (k0_t1 : Fin k0_t1_loop.trips) : Fin 4 → Nat :=
  let c0_i32_137 : BitVec 32 := 0#32
  let c0_i32_42 : BitVec 32 := 0#32
  let c1_i32_43 : BitVec 32 := 1#32
  let arg13 : BitVec 32 := Scf.iv c0_i32_42 c1_i32_43 k0_t1
  let c0_i32_46 : BitVec 32 := 0#32
  let v44 : BitVec 1 := Scalar.cmpi .sgt arg13 c0_i32_46
  let v45 : BitVec 32 := Scalar.extui v44
  let c0_i32_47 : BitVec 32 := 0#32
  let v46 : BitVec 1 := Scalar.cmpi .slt arg13 c0_i32_47
  let v47 : BitVec 32 := Scalar.extui v46
  let v48 : BitVec 32 := Scalar.subi v45 v47
  let c4_i32_45 : BitVec 32 := 4#32
  let c0_i32_48 : BitVec 32 := 0#32
  let v49 : BitVec 1 := Scalar.cmpi .sgt c4_i32_45 c0_i32_48
  let v50 : BitVec 32 := Scalar.extui v49
  let c0_i32_49 : BitVec 32 := 0#32
  let v51 : BitVec 1 := Scalar.cmpi .slt c4_i32_45 c0_i32_49
  let v52 : BitVec 32 := Scalar.extui v51
  let v53 : BitVec 32 := Scalar.subi v50 v52
  let v54 : BitVec 1 := Scalar.cmpi .ne v48 v53
  let v55 : BitVec 32 := Scalar.remsi arg13 c4_i32_45
  let c0_i32_50 : BitVec 32 := 0#32
  let v56 : BitVec 1 := Scalar.cmpi .ne v55 c0_i32_50
  let v57 : BitVec 1 := Scalar.andi v54 v56
  let v43 : BitVec 32 := Scalar.divsi arg13 c4_i32_45
  let c1_i32_51 : BitVec 32 := 1#32
  let v58 : BitVec 32 := Scalar.subi v43 c1_i32_51
  let v59 : BitVec 32 := Scalar.select v57 v58 v43
  let c4_i32_52 : BitVec 32 := 4#32
  let v60 : BitVec 32 := Scalar.muli v59 c4_i32_52
  let v61 : BitVec 32 := Scalar.subi arg13 v60
  let c0_i32_138 : BitVec 32 := 0#32
  let c0_i32_139 : BitVec 32 := 0#32
  ![0, v61.toNat, 0, 0]
def k0_off8 (k0_t1 : Fin k0_t1_loop.trips) : Fin 2 → Nat :=
  let c0_i32_147 : BitVec 32 := 0#32
  let c0_i32_42 : BitVec 32 := 0#32
  let c1_i32_43 : BitVec 32 := 1#32
  let arg13 : BitVec 32 := Scf.iv c0_i32_42 c1_i32_43 k0_t1
  let c0_i32_46 : BitVec 32 := 0#32
  let v44 : BitVec 1 := Scalar.cmpi .sgt arg13 c0_i32_46
  let v45 : BitVec 32 := Scalar.extui v44
  let c0_i32_47 : BitVec 32 := 0#32
  let v46 : BitVec 1 := Scalar.cmpi .slt arg13 c0_i32_47
  let v47 : BitVec 32 := Scalar.extui v46
  let v48 : BitVec 32 := Scalar.subi v45 v47
  let c4_i32_45 : BitVec 32 := 4#32
  let c0_i32_48 : BitVec 32 := 0#32
  let v49 : BitVec 1 := Scalar.cmpi .sgt c4_i32_45 c0_i32_48
  let v50 : BitVec 32 := Scalar.extui v49
  let c0_i32_49 : BitVec 32 := 0#32
  let v51 : BitVec 1 := Scalar.cmpi .slt c4_i32_45 c0_i32_49
  let v52 : BitVec 32 := Scalar.extui v51
  let v53 : BitVec 32 := Scalar.subi v50 v52
  let v54 : BitVec 1 := Scalar.cmpi .ne v48 v53
  let v55 : BitVec 32 := Scalar.remsi arg13 c4_i32_45
  let c0_i32_50 : BitVec 32 := 0#32
  let v56 : BitVec 1 := Scalar.cmpi .ne v55 c0_i32_50
  let v57 : BitVec 1 := Scalar.andi v54 v56
  let v43 : BitVec 32 := Scalar.divsi arg13 c4_i32_45
  let c1_i32_51 : BitVec 32 := 1#32
  let v58 : BitVec 32 := Scalar.subi v43 c1_i32_51
  let v59 : BitVec 32 := Scalar.select v57 v58 v43
  let c1_i32_53 : BitVec 32 := 1#32
  let v62 : BitVec 32 := Scalar.subi v59 c1_i32_53
  let c4_i32_82 : BitVec 32 := 4#32
  let v98 : BitVec 32 := Scalar.muli v62 c4_i32_82
  let c4_i32_52 : BitVec 32 := 4#32
  let v60 : BitVec 32 := Scalar.muli v59 c4_i32_52
  let v61 : BitVec 32 := Scalar.subi arg13 v60
  let v99 : BitVec 32 := Scalar.addi v98 v61
  let c4_i32_143 : BitVec 32 := 4#32
  let v172 : BitVec 32 := Scalar.addi v99 c4_i32_143
  ![0, v172.toNat]
def k0_off9 (k0_t1 : Fin k0_t1_loop.trips) : Fin 4 → Nat :=
  let c0_i32_145 : BitVec 32 := 0#32
  let c0_i32_42 : BitVec 32 := 0#32
  let c1_i32_43 : BitVec 32 := 1#32
  let arg13 : BitVec 32 := Scf.iv c0_i32_42 c1_i32_43 k0_t1
  let c0_i32_46 : BitVec 32 := 0#32
  let v44 : BitVec 1 := Scalar.cmpi .sgt arg13 c0_i32_46
  let v45 : BitVec 32 := Scalar.extui v44
  let c0_i32_47 : BitVec 32 := 0#32
  let v46 : BitVec 1 := Scalar.cmpi .slt arg13 c0_i32_47
  let v47 : BitVec 32 := Scalar.extui v46
  let v48 : BitVec 32 := Scalar.subi v45 v47
  let c4_i32_45 : BitVec 32 := 4#32
  let c0_i32_48 : BitVec 32 := 0#32
  let v49 : BitVec 1 := Scalar.cmpi .sgt c4_i32_45 c0_i32_48
  let v50 : BitVec 32 := Scalar.extui v49
  let c0_i32_49 : BitVec 32 := 0#32
  let v51 : BitVec 1 := Scalar.cmpi .slt c4_i32_45 c0_i32_49
  let v52 : BitVec 32 := Scalar.extui v51
  let v53 : BitVec 32 := Scalar.subi v50 v52
  let v54 : BitVec 1 := Scalar.cmpi .ne v48 v53
  let v55 : BitVec 32 := Scalar.remsi arg13 c4_i32_45
  let c0_i32_50 : BitVec 32 := 0#32
  let v56 : BitVec 1 := Scalar.cmpi .ne v55 c0_i32_50
  let v57 : BitVec 1 := Scalar.andi v54 v56
  let v43 : BitVec 32 := Scalar.divsi arg13 c4_i32_45
  let c1_i32_51 : BitVec 32 := 1#32
  let v58 : BitVec 32 := Scalar.subi v43 c1_i32_51
  let v59 : BitVec 32 := Scalar.select v57 v58 v43
  let c1_i32_53 : BitVec 32 := 1#32
  let v62 : BitVec 32 := Scalar.subi v59 c1_i32_53
  let c4_i32_82 : BitVec 32 := 4#32
  let v98 : BitVec 32 := Scalar.muli v62 c4_i32_82
  let c4_i32_52 : BitVec 32 := 4#32
  let v60 : BitVec 32 := Scalar.muli v59 c4_i32_52
  let v61 : BitVec 32 := Scalar.subi arg13 v60
  let v99 : BitVec 32 := Scalar.addi v98 v61
  let c4_i32_143 : BitVec 32 := 4#32
  let v172 : BitVec 32 := Scalar.addi v99 c4_i32_143
  let c0_i32_150 : BitVec 32 := 0#32
  let c0_i32_151 : BitVec 32 := 0#32
  ![0, v172.toNat, 0, 0]
def k0_dev3 (d0 : Dev nD) : Nat :=
  let c0_i32_149 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_148 : BitVec 32 := 1#32
  let v173 : BitVec 32 := Scalar.muli v24 c1_i32_148
  let v174 : BitVec 32 := Scalar.addi c0_i32_149 v173
  v174.toNat
def k0_off10 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_94 : BitVec 32 := 2#32
  let v117 : BitVec 32 := Scalar.addi v2 c2_i32_94
  let c0_i32_42 : BitVec 32 := 0#32
  let c1_i32_43 : BitVec 32 := 1#32
  let arg13 : BitVec 32 := Scf.iv c0_i32_42 c1_i32_43 k0_t1
  let c0_i32_46 : BitVec 32 := 0#32
  let v44 : BitVec 1 := Scalar.cmpi .sgt arg13 c0_i32_46
  let v45 : BitVec 32 := Scalar.extui v44
  let c0_i32_47 : BitVec 32 := 0#32
  let v46 : BitVec 1 := Scalar.cmpi .slt arg13 c0_i32_47
  let v47 : BitVec 32 := Scalar.extui v46
  let v48 : BitVec 32 := Scalar.subi v45 v47
  let c4_i32_45 : BitVec 32 := 4#32
  let c0_i32_48 : BitVec 32 := 0#32
  let v49 : BitVec 1 := Scalar.cmpi .sgt c4_i32_45 c0_i32_48
  let v50 : BitVec 32 := Scalar.extui v49
  let c0_i32_49 : BitVec 32 := 0#32
  let v51 : BitVec 1 := Scalar.cmpi .slt c4_i32_45 c0_i32_49
  let v52 : BitVec 32 := Scalar.extui v51
  let v53 : BitVec 32 := Scalar.subi v50 v52
  let v54 : BitVec 1 := Scalar.cmpi .ne v48 v53
  let v55 : BitVec 32 := Scalar.remsi arg13 c4_i32_45
  let c0_i32_50 : BitVec 32 := 0#32
  let v56 : BitVec 1 := Scalar.cmpi .ne v55 c0_i32_50
  let v57 : BitVec 1 := Scalar.andi v54 v56
  let v43 : BitVec 32 := Scalar.divsi arg13 c4_i32_45
  let c1_i32_51 : BitVec 32 := 1#32
  let v58 : BitVec 32 := Scalar.subi v43 c1_i32_51
  let v59 : BitVec 32 := Scalar.select v57 v58 v43
  let c1_i32_53 : BitVec 32 := 1#32
  let v62 : BitVec 32 := Scalar.subi v59 c1_i32_53
  let v118 : BitVec 32 := Scalar.addi v117 v62
  let c4_i32_95 : BitVec 32 := 4#32
  let c0_i32_96 : BitVec 32 := 0#32
  let v119 : BitVec 1 := Scalar.cmpi .eq c4_i32_95 c0_i32_96
  let c1_i32_97 : BitVec 32 := 1#32
  let v120 : BitVec 32 := Scalar.select v119 c1_i32_97 c4_i32_95
  let v121 : BitVec 32 := Scalar.remsi v118 v120
  let c0_i32_99 : BitVec 32 := 0#32
  let v123 : BitVec 1 := Scalar.cmpi .slt v121 c0_i32_99
  let c0_i32_100 : BitVec 32 := 0#32
  let v124 : BitVec 1 := Scalar.cmpi .slt v120 c0_i32_100
  let v125 : BitVec 1 := Scalar.xori v123 v124
  let c0_i32_98 : BitVec 32 := 0#32
  let v122 : BitVec 1 := Scalar.cmpi .ne v121 c0_i32_98
  let v126 : BitVec 1 := Scalar.andi v125 v122
  let v127 : BitVec 32 := Scalar.addi v121 v120
  let v128 : BitVec 32 := Scalar.select v126 v127 v121
  let c2048_i32_101 : BitVec 32 := 2048#32
  let v129 : BitVec 32 := Scalar.muli v128 c2048_i32_101
  let c4_i32_52 : BitVec 32 := 4#32
  let v60 : BitVec 32 := Scalar.muli v59 c4_i32_52
  let v61 : BitVec 32 := Scalar.subi arg13 v60
  let c512_i32_102 : BitVec 32 := 512#32
  let v130 : BitVec 32 := Scalar.muli v61 c512_i32_102
  let v131 : BitVec 32 := Scalar.addi v129 v130
  let c0_i32_103 : BitVec 32 := 0#32
  ![v131.toNat, 0]
def k0_off11 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_94 : BitVec 32 := 2#32
  let v117 : BitVec 32 := Scalar.addi v2 c2_i32_94
  let c0_i32_42 : BitVec 32 := 0#32
  let c1_i32_43 : BitVec 32 := 1#32
  let arg13 : BitVec 32 := Scf.iv c0_i32_42 c1_i32_43 k0_t1
  let c0_i32_46 : BitVec 32 := 0#32
  let v44 : BitVec 1 := Scalar.cmpi .sgt arg13 c0_i32_46
  let v45 : BitVec 32 := Scalar.extui v44
  let c0_i32_47 : BitVec 32 := 0#32
  let v46 : BitVec 1 := Scalar.cmpi .slt arg13 c0_i32_47
  let v47 : BitVec 32 := Scalar.extui v46
  let v48 : BitVec 32 := Scalar.subi v45 v47
  let c4_i32_45 : BitVec 32 := 4#32
  let c0_i32_48 : BitVec 32 := 0#32
  let v49 : BitVec 1 := Scalar.cmpi .sgt c4_i32_45 c0_i32_48
  let v50 : BitVec 32 := Scalar.extui v49
  let c0_i32_49 : BitVec 32 := 0#32
  let v51 : BitVec 1 := Scalar.cmpi .slt c4_i32_45 c0_i32_49
  let v52 : BitVec 32 := Scalar.extui v51
  let v53 : BitVec 32 := Scalar.subi v50 v52
  let v54 : BitVec 1 := Scalar.cmpi .ne v48 v53
  let v55 : BitVec 32 := Scalar.remsi arg13 c4_i32_45
  let c0_i32_50 : BitVec 32 := 0#32
  let v56 : BitVec 1 := Scalar.cmpi .ne v55 c0_i32_50
  let v57 : BitVec 1 := Scalar.andi v54 v56
  let v43 : BitVec 32 := Scalar.divsi arg13 c4_i32_45
  let c1_i32_51 : BitVec 32 := 1#32
  let v58 : BitVec 32 := Scalar.subi v43 c1_i32_51
  let v59 : BitVec 32 := Scalar.select v57 v58 v43
  let c1_i32_53 : BitVec 32 := 1#32
  let v62 : BitVec 32 := Scalar.subi v59 c1_i32_53
  let v118 : BitVec 32 := Scalar.addi v117 v62
  let c4_i32_95 : BitVec 32 := 4#32
  let c0_i32_96 : BitVec 32 := 0#32
  let v119 : BitVec 1 := Scalar.cmpi .eq c4_i32_95 c0_i32_96
  let c1_i32_97 : BitVec 32 := 1#32
  let v120 : BitVec 32 := Scalar.select v119 c1_i32_97 c4_i32_95
  let v121 : BitVec 32 := Scalar.remsi v118 v120
  let c0_i32_99 : BitVec 32 := 0#32
  let v123 : BitVec 1 := Scalar.cmpi .slt v121 c0_i32_99
  let c0_i32_100 : BitVec 32 := 0#32
  let v124 : BitVec 1 := Scalar.cmpi .slt v120 c0_i32_100
  let v125 : BitVec 1 := Scalar.xori v123 v124
  let c0_i32_98 : BitVec 32 := 0#32
  let v122 : BitVec 1 := Scalar.cmpi .ne v121 c0_i32_98
  let v126 : BitVec 1 := Scalar.andi v125 v122
  let v127 : BitVec 32 := Scalar.addi v121 v120
  let v128 : BitVec 32 := Scalar.select v126 v127 v121
  let c2048_i32_101 : BitVec 32 := 2048#32
  let v129 : BitVec 32 := Scalar.muli v128 c2048_i32_101
  let c4_i32_52 : BitVec 32 := 4#32
  let v60 : BitVec 32 := Scalar.muli v59 c4_i32_52
  let v61 : BitVec 32 := Scalar.subi arg13 v60
  let c512_i32_102 : BitVec 32 := 512#32
  let v130 : BitVec 32 := Scalar.muli v61 c512_i32_102
  let v131 : BitVec 32 := Scalar.addi v129 v130
  let c1024_i32_114 : BitVec 32 := 1024#32
  ![v131.toNat, 1024]
def k0_cond6 (k0_t1 : Fin k0_t1_loop.trips) : BitVec 1 :=
  let c0_i32_42 : BitVec 32 := 0#32
  let c1_i32_43 : BitVec 32 := 1#32
  let arg13 : BitVec 32 := Scf.iv c0_i32_42 c1_i32_43 k0_t1
  let c0_i32_46 : BitVec 32 := 0#32
  let v44 : BitVec 1 := Scalar.cmpi .sgt arg13 c0_i32_46
  let v45 : BitVec 32 := Scalar.extui v44
  let c0_i32_47 : BitVec 32 := 0#32
  let v46 : BitVec 1 := Scalar.cmpi .slt arg13 c0_i32_47
  let v47 : BitVec 32 := Scalar.extui v46
  let v48 : BitVec 32 := Scalar.subi v45 v47
  let c4_i32_45 : BitVec 32 := 4#32
  let c0_i32_48 : BitVec 32 := 0#32
  let v49 : BitVec 1 := Scalar.cmpi .sgt c4_i32_45 c0_i32_48
  let v50 : BitVec 32 := Scalar.extui v49
  let c0_i32_49 : BitVec 32 := 0#32
  let v51 : BitVec 1 := Scalar.cmpi .slt c4_i32_45 c0_i32_49
  let v52 : BitVec 32 := Scalar.extui v51
  let v53 : BitVec 32 := Scalar.subi v50 v52
  let v54 : BitVec 1 := Scalar.cmpi .ne v48 v53
  let v55 : BitVec 32 := Scalar.remsi arg13 c4_i32_45
  let c0_i32_50 : BitVec 32 := 0#32
  let v56 : BitVec 1 := Scalar.cmpi .ne v55 c0_i32_50
  let v57 : BitVec 1 := Scalar.andi v54 v56
  let v43 : BitVec 32 := Scalar.divsi arg13 c4_i32_45
  let c1_i32_51 : BitVec 32 := 1#32
  let v58 : BitVec 32 := Scalar.subi v43 c1_i32_51
  let v59 : BitVec 32 := Scalar.select v57 v58 v43
  let c1_i32_53 : BitVec 32 := 1#32
  let v62 : BitVec 32 := Scalar.subi v59 c1_i32_53
  let c0_i32_128 : BitVec 32 := 0#32
  let v154 : BitVec 1 := Scalar.cmpi .sge v62 c0_i32_128
  let v155 : BitVec 32 := Scalar.extui v154
  let c0_i32_129 : BitVec 32 := 0#32
  let v156 : BitVec 1 := Scalar.cmpi .ne v155 c0_i32_129
  v156

def k0_off12 (k0_t1 : Fin k0_t1_loop.trips) : Fin 2 → Nat :=
  let c1_i32_139 : BitVec 32 := 1#32
  let c0_i32_42 : BitVec 32 := 0#32
  let c1_i32_43 : BitVec 32 := 1#32
  let arg13 : BitVec 32 := Scf.iv c0_i32_42 c1_i32_43 k0_t1
  let c0_i32_46 : BitVec 32 := 0#32
  let v44 : BitVec 1 := Scalar.cmpi .sgt arg13 c0_i32_46
  let v45 : BitVec 32 := Scalar.extui v44
  let c0_i32_47 : BitVec 32 := 0#32
  let v46 : BitVec 1 := Scalar.cmpi .slt arg13 c0_i32_47
  let v47 : BitVec 32 := Scalar.extui v46
  let v48 : BitVec 32 := Scalar.subi v45 v47
  let c4_i32_45 : BitVec 32 := 4#32
  let c0_i32_48 : BitVec 32 := 0#32
  let v49 : BitVec 1 := Scalar.cmpi .sgt c4_i32_45 c0_i32_48
  let v50 : BitVec 32 := Scalar.extui v49
  let c0_i32_49 : BitVec 32 := 0#32
  let v51 : BitVec 1 := Scalar.cmpi .slt c4_i32_45 c0_i32_49
  let v52 : BitVec 32 := Scalar.extui v51
  let v53 : BitVec 32 := Scalar.subi v50 v52
  let v54 : BitVec 1 := Scalar.cmpi .ne v48 v53
  let v55 : BitVec 32 := Scalar.remsi arg13 c4_i32_45
  let c0_i32_50 : BitVec 32 := 0#32
  let v56 : BitVec 1 := Scalar.cmpi .ne v55 c0_i32_50
  let v57 : BitVec 1 := Scalar.andi v54 v56
  let v43 : BitVec 32 := Scalar.divsi arg13 c4_i32_45
  let c1_i32_51 : BitVec 32 := 1#32
  let v58 : BitVec 32 := Scalar.subi v43 c1_i32_51
  let v59 : BitVec 32 := Scalar.select v57 v58 v43
  let c1_i32_53 : BitVec 32 := 1#32
  let v62 : BitVec 32 := Scalar.subi v59 c1_i32_53
  let c4_i32_127 : BitVec 32 := 4#32
  let v152 : BitVec 32 := Scalar.muli v62 c4_i32_127
  let c4_i32_52 : BitVec 32 := 4#32
  let v60 : BitVec 32 := Scalar.muli v59 c4_i32_52
  let v61 : BitVec 32 := Scalar.subi arg13 v60
  let v153 : BitVec 32 := Scalar.addi v152 v61
  ![1, v153.toNat]
def k0_off13 (k0_t1 : Fin k0_t1_loop.trips) : Fin 4 → Nat :=
  let c1_i32_138 : BitVec 32 := 1#32
  let c0_i32_42 : BitVec 32 := 0#32
  let c1_i32_43 : BitVec 32 := 1#32
  let arg13 : BitVec 32 := Scf.iv c0_i32_42 c1_i32_43 k0_t1
  let c0_i32_46 : BitVec 32 := 0#32
  let v44 : BitVec 1 := Scalar.cmpi .sgt arg13 c0_i32_46
  let v45 : BitVec 32 := Scalar.extui v44
  let c0_i32_47 : BitVec 32 := 0#32
  let v46 : BitVec 1 := Scalar.cmpi .slt arg13 c0_i32_47
  let v47 : BitVec 32 := Scalar.extui v46
  let v48 : BitVec 32 := Scalar.subi v45 v47
  let c4_i32_45 : BitVec 32 := 4#32
  let c0_i32_48 : BitVec 32 := 0#32
  let v49 : BitVec 1 := Scalar.cmpi .sgt c4_i32_45 c0_i32_48
  let v50 : BitVec 32 := Scalar.extui v49
  let c0_i32_49 : BitVec 32 := 0#32
  let v51 : BitVec 1 := Scalar.cmpi .slt c4_i32_45 c0_i32_49
  let v52 : BitVec 32 := Scalar.extui v51
  let v53 : BitVec 32 := Scalar.subi v50 v52
  let v54 : BitVec 1 := Scalar.cmpi .ne v48 v53
  let v55 : BitVec 32 := Scalar.remsi arg13 c4_i32_45
  let c0_i32_50 : BitVec 32 := 0#32
  let v56 : BitVec 1 := Scalar.cmpi .ne v55 c0_i32_50
  let v57 : BitVec 1 := Scalar.andi v54 v56
  let v43 : BitVec 32 := Scalar.divsi arg13 c4_i32_45
  let c1_i32_51 : BitVec 32 := 1#32
  let v58 : BitVec 32 := Scalar.subi v43 c1_i32_51
  let v59 : BitVec 32 := Scalar.select v57 v58 v43
  let c4_i32_52 : BitVec 32 := 4#32
  let v60 : BitVec 32 := Scalar.muli v59 c4_i32_52
  let v61 : BitVec 32 := Scalar.subi arg13 v60
  let c0_i32_142 : BitVec 32 := 0#32
  let c0_i32_143 : BitVec 32 := 0#32
  ![1, v61.toNat, 0, 0]
def k0_off14 (k0_t1 : Fin k0_t1_loop.trips) : Fin 4 → Nat :=
  let c1_i32_137 : BitVec 32 := 1#32
  let c0_i32_42 : BitVec 32 := 0#32
  let c1_i32_43 : BitVec 32 := 1#32
  let arg13 : BitVec 32 := Scf.iv c0_i32_42 c1_i32_43 k0_t1
  let c0_i32_46 : BitVec 32 := 0#32
  let v44 : BitVec 1 := Scalar.cmpi .sgt arg13 c0_i32_46
  let v45 : BitVec 32 := Scalar.extui v44
  let c0_i32_47 : BitVec 32 := 0#32
  let v46 : BitVec 1 := Scalar.cmpi .slt arg13 c0_i32_47
  let v47 : BitVec 32 := Scalar.extui v46
  let v48 : BitVec 32 := Scalar.subi v45 v47
  let c4_i32_45 : BitVec 32 := 4#32
  let c0_i32_48 : BitVec 32 := 0#32
  let v49 : BitVec 1 := Scalar.cmpi .sgt c4_i32_45 c0_i32_48
  let v50 : BitVec 32 := Scalar.extui v49
  let c0_i32_49 : BitVec 32 := 0#32
  let v51 : BitVec 1 := Scalar.cmpi .slt c4_i32_45 c0_i32_49
  let v52 : BitVec 32 := Scalar.extui v51
  let v53 : BitVec 32 := Scalar.subi v50 v52
  let v54 : BitVec 1 := Scalar.cmpi .ne v48 v53
  let v55 : BitVec 32 := Scalar.remsi arg13 c4_i32_45
  let c0_i32_50 : BitVec 32 := 0#32
  let v56 : BitVec 1 := Scalar.cmpi .ne v55 c0_i32_50
  let v57 : BitVec 1 := Scalar.andi v54 v56
  let v43 : BitVec 32 := Scalar.divsi arg13 c4_i32_45
  let c1_i32_51 : BitVec 32 := 1#32
  let v58 : BitVec 32 := Scalar.subi v43 c1_i32_51
  let v59 : BitVec 32 := Scalar.select v57 v58 v43
  let c1_i32_53 : BitVec 32 := 1#32
  let v62 : BitVec 32 := Scalar.subi v59 c1_i32_53
  let c4_i32_127 : BitVec 32 := 4#32
  let v152 : BitVec 32 := Scalar.muli v62 c4_i32_127
  let c4_i32_52 : BitVec 32 := 4#32
  let v60 : BitVec 32 := Scalar.muli v59 c4_i32_52
  let v61 : BitVec 32 := Scalar.subi arg13 v60
  let v153 : BitVec 32 := Scalar.addi v152 v61
  let c0_i32_144 : BitVec 32 := 0#32
  let c0_i32_145 : BitVec 32 := 0#32
  ![1, v153.toNat, 0, 0]
def k0_cond8 (k0_t1 : Fin k0_t1_loop.trips) : BitVec 1 :=
  let c0_i32_42 : BitVec 32 := 0#32
  let c1_i32_43 : BitVec 32 := 1#32
  let arg13 : BitVec 32 := Scf.iv c0_i32_42 c1_i32_43 k0_t1
  let c0_i32_46 : BitVec 32 := 0#32
  let v44 : BitVec 1 := Scalar.cmpi .sgt arg13 c0_i32_46
  let v45 : BitVec 32 := Scalar.extui v44
  let c0_i32_47 : BitVec 32 := 0#32
  let v46 : BitVec 1 := Scalar.cmpi .slt arg13 c0_i32_47
  let v47 : BitVec 32 := Scalar.extui v46
  let v48 : BitVec 32 := Scalar.subi v45 v47
  let c4_i32_45 : BitVec 32 := 4#32
  let c0_i32_48 : BitVec 32 := 0#32
  let v49 : BitVec 1 := Scalar.cmpi .sgt c4_i32_45 c0_i32_48
  let v50 : BitVec 32 := Scalar.extui v49
  let c0_i32_49 : BitVec 32 := 0#32
  let v51 : BitVec 1 := Scalar.cmpi .slt c4_i32_45 c0_i32_49
  let v52 : BitVec 32 := Scalar.extui v51
  let v53 : BitVec 32 := Scalar.subi v50 v52
  let v54 : BitVec 1 := Scalar.cmpi .ne v48 v53
  let v55 : BitVec 32 := Scalar.remsi arg13 c4_i32_45
  let c0_i32_50 : BitVec 32 := 0#32
  let v56 : BitVec 1 := Scalar.cmpi .ne v55 c0_i32_50
  let v57 : BitVec 1 := Scalar.andi v54 v56
  let v43 : BitVec 32 := Scalar.divsi arg13 c4_i32_45
  let c1_i32_51 : BitVec 32 := 1#32
  let v58 : BitVec 32 := Scalar.subi v43 c1_i32_51
  let v59 : BitVec 32 := Scalar.select v57 v58 v43
  let c1_i32_53 : BitVec 32 := 1#32
  let v62 : BitVec 32 := Scalar.subi v59 c1_i32_53
  let c2_i32_133 : BitVec 32 := 2#32
  let v162 : BitVec 1 := Scalar.cmpi .eq v62 c2_i32_133
  let v163 : BitVec 32 := Scalar.extui v162
  let c0_i32_134 : BitVec 32 := 0#32
  let v164 : BitVec 1 := Scalar.cmpi .ne v163 c0_i32_134
  v164

def k0_off15 (k0_t1 : Fin k0_t1_loop.trips) : Fin 2 → Nat :=
  let c0_i32_42 : BitVec 32 := 0#32
  let c1_i32_43 : BitVec 32 := 1#32
  let arg13 : BitVec 32 := Scf.iv c0_i32_42 c1_i32_43 k0_t1
  let c0_i32_46 : BitVec 32 := 0#32
  let v44 : BitVec 1 := Scalar.cmpi .sgt arg13 c0_i32_46
  let v45 : BitVec 32 := Scalar.extui v44
  let c0_i32_47 : BitVec 32 := 0#32
  let v46 : BitVec 1 := Scalar.cmpi .slt arg13 c0_i32_47
  let v47 : BitVec 32 := Scalar.extui v46
  let v48 : BitVec 32 := Scalar.subi v45 v47
  let c4_i32_45 : BitVec 32 := 4#32
  let c0_i32_48 : BitVec 32 := 0#32
  let v49 : BitVec 1 := Scalar.cmpi .sgt c4_i32_45 c0_i32_48
  let v50 : BitVec 32 := Scalar.extui v49
  let c0_i32_49 : BitVec 32 := 0#32
  let v51 : BitVec 1 := Scalar.cmpi .slt c4_i32_45 c0_i32_49
  let v52 : BitVec 32 := Scalar.extui v51
  let v53 : BitVec 32 := Scalar.subi v50 v52
  let v54 : BitVec 1 := Scalar.cmpi .ne v48 v53
  let v55 : BitVec 32 := Scalar.remsi arg13 c4_i32_45
  let c0_i32_50 : BitVec 32 := 0#32
  let v56 : BitVec 1 := Scalar.cmpi .ne v55 c0_i32_50
  let v57 : BitVec 1 := Scalar.andi v54 v56
  let v43 : BitVec 32 := Scalar.divsi arg13 c4_i32_45
  let c1_i32_51 : BitVec 32 := 1#32
  let v58 : BitVec 32 := Scalar.subi v43 c1_i32_51
  let v59 : BitVec 32 := Scalar.select v57 v58 v43
  let c4_i32_52 : BitVec 32 := 4#32
  let v60 : BitVec 32 := Scalar.muli v59 c4_i32_52
  let v61 : BitVec 32 := Scalar.subi arg13 v60
  let c512_i32_144 : BitVec 32 := 512#32
  let v176 : BitVec 32 := Scalar.muli v61 c512_i32_144
  let c2048_i32_145 : BitVec 32 := 2048#32
  ![v176.toNat, 2048]
def k0_cond9 (k0_t1 : Fin k0_t1_loop.trips) : BitVec 1 :=
  let c0_i32_42 : BitVec 32 := 0#32
  let c1_i32_43 : BitVec 32 := 1#32
  let arg13 : BitVec 32 := Scf.iv c0_i32_42 c1_i32_43 k0_t1
  let c0_i32_46 : BitVec 32 := 0#32
  let v44 : BitVec 1 := Scalar.cmpi .sgt arg13 c0_i32_46
  let v45 : BitVec 32 := Scalar.extui v44
  let c0_i32_47 : BitVec 32 := 0#32
  let v46 : BitVec 1 := Scalar.cmpi .slt arg13 c0_i32_47
  let v47 : BitVec 32 := Scalar.extui v46
  let v48 : BitVec 32 := Scalar.subi v45 v47
  let c4_i32_45 : BitVec 32 := 4#32
  let c0_i32_48 : BitVec 32 := 0#32
  let v49 : BitVec 1 := Scalar.cmpi .sgt c4_i32_45 c0_i32_48
  let v50 : BitVec 32 := Scalar.extui v49
  let c0_i32_49 : BitVec 32 := 0#32
  let v51 : BitVec 1 := Scalar.cmpi .slt c4_i32_45 c0_i32_49
  let v52 : BitVec 32 := Scalar.extui v51
  let v53 : BitVec 32 := Scalar.subi v50 v52
  let v54 : BitVec 1 := Scalar.cmpi .ne v48 v53
  let v55 : BitVec 32 := Scalar.remsi arg13 c4_i32_45
  let c0_i32_50 : BitVec 32 := 0#32
  let v56 : BitVec 1 := Scalar.cmpi .ne v55 c0_i32_50
  let v57 : BitVec 1 := Scalar.andi v54 v56
  let v43 : BitVec 32 := Scalar.divsi arg13 c4_i32_45
  let c1_i32_51 : BitVec 32 := 1#32
  let v58 : BitVec 32 := Scalar.subi v43 c1_i32_51
  let v59 : BitVec 32 := Scalar.select v57 v58 v43
  let c1_i32_53 : BitVec 32 := 1#32
  let v62 : BitVec 32 := Scalar.subi v59 c1_i32_53
  let c2_i32_135 : BitVec 32 := 2#32
  let v165 : BitVec 1 := Scalar.cmpi .slt v62 c2_i32_135
  let v166 : BitVec 32 := Scalar.extui v165
  let c0_i32_136 : BitVec 32 := 0#32
  let v167 : BitVec 1 := Scalar.cmpi .ne v166 c0_i32_136
  v167

def k0_off16 (k0_t1 : Fin k0_t1_loop.trips) : Fin 4 → Nat :=
  let c1_i32_137 : BitVec 32 := 1#32
  let c0_i32_42 : BitVec 32 := 0#32
  let c1_i32_43 : BitVec 32 := 1#32
  let arg13 : BitVec 32 := Scf.iv c0_i32_42 c1_i32_43 k0_t1
  let c0_i32_46 : BitVec 32 := 0#32
  let v44 : BitVec 1 := Scalar.cmpi .sgt arg13 c0_i32_46
  let v45 : BitVec 32 := Scalar.extui v44
  let c0_i32_47 : BitVec 32 := 0#32
  let v46 : BitVec 1 := Scalar.cmpi .slt arg13 c0_i32_47
  let v47 : BitVec 32 := Scalar.extui v46
  let v48 : BitVec 32 := Scalar.subi v45 v47
  let c4_i32_45 : BitVec 32 := 4#32
  let c0_i32_48 : BitVec 32 := 0#32
  let v49 : BitVec 1 := Scalar.cmpi .sgt c4_i32_45 c0_i32_48
  let v50 : BitVec 32 := Scalar.extui v49
  let c0_i32_49 : BitVec 32 := 0#32
  let v51 : BitVec 1 := Scalar.cmpi .slt c4_i32_45 c0_i32_49
  let v52 : BitVec 32 := Scalar.extui v51
  let v53 : BitVec 32 := Scalar.subi v50 v52
  let v54 : BitVec 1 := Scalar.cmpi .ne v48 v53
  let v55 : BitVec 32 := Scalar.remsi arg13 c4_i32_45
  let c0_i32_50 : BitVec 32 := 0#32
  let v56 : BitVec 1 := Scalar.cmpi .ne v55 c0_i32_50
  let v57 : BitVec 1 := Scalar.andi v54 v56
  let v43 : BitVec 32 := Scalar.divsi arg13 c4_i32_45
  let c1_i32_51 : BitVec 32 := 1#32
  let v58 : BitVec 32 := Scalar.subi v43 c1_i32_51
  let v59 : BitVec 32 := Scalar.select v57 v58 v43
  let c4_i32_52 : BitVec 32 := 4#32
  let v60 : BitVec 32 := Scalar.muli v59 c4_i32_52
  let v61 : BitVec 32 := Scalar.subi arg13 v60
  let c0_i32_138 : BitVec 32 := 0#32
  let c0_i32_139 : BitVec 32 := 0#32
  ![1, v61.toNat, 0, 0]
def k0_off17 (k0_t1 : Fin k0_t1_loop.trips) : Fin 2 → Nat :=
  let c1_i32_147 : BitVec 32 := 1#32
  let c0_i32_42 : BitVec 32 := 0#32
  let c1_i32_43 : BitVec 32 := 1#32
  let arg13 : BitVec 32 := Scf.iv c0_i32_42 c1_i32_43 k0_t1
  let c0_i32_46 : BitVec 32 := 0#32
  let v44 : BitVec 1 := Scalar.cmpi .sgt arg13 c0_i32_46
  let v45 : BitVec 32 := Scalar.extui v44
  let c0_i32_47 : BitVec 32 := 0#32
  let v46 : BitVec 1 := Scalar.cmpi .slt arg13 c0_i32_47
  let v47 : BitVec 32 := Scalar.extui v46
  let v48 : BitVec 32 := Scalar.subi v45 v47
  let c4_i32_45 : BitVec 32 := 4#32
  let c0_i32_48 : BitVec 32 := 0#32
  let v49 : BitVec 1 := Scalar.cmpi .sgt c4_i32_45 c0_i32_48
  let v50 : BitVec 32 := Scalar.extui v49
  let c0_i32_49 : BitVec 32 := 0#32
  let v51 : BitVec 1 := Scalar.cmpi .slt c4_i32_45 c0_i32_49
  let v52 : BitVec 32 := Scalar.extui v51
  let v53 : BitVec 32 := Scalar.subi v50 v52
  let v54 : BitVec 1 := Scalar.cmpi .ne v48 v53
  let v55 : BitVec 32 := Scalar.remsi arg13 c4_i32_45
  let c0_i32_50 : BitVec 32 := 0#32
  let v56 : BitVec 1 := Scalar.cmpi .ne v55 c0_i32_50
  let v57 : BitVec 1 := Scalar.andi v54 v56
  let v43 : BitVec 32 := Scalar.divsi arg13 c4_i32_45
  let c1_i32_51 : BitVec 32 := 1#32
  let v58 : BitVec 32 := Scalar.subi v43 c1_i32_51
  let v59 : BitVec 32 := Scalar.select v57 v58 v43
  let c1_i32_53 : BitVec 32 := 1#32
  let v62 : BitVec 32 := Scalar.subi v59 c1_i32_53
  let c4_i32_127 : BitVec 32 := 4#32
  let v152 : BitVec 32 := Scalar.muli v62 c4_i32_127
  let c4_i32_52 : BitVec 32 := 4#32
  let v60 : BitVec 32 := Scalar.muli v59 c4_i32_52
  let v61 : BitVec 32 := Scalar.subi arg13 v60
  let v153 : BitVec 32 := Scalar.addi v152 v61
  let c4_i32_143 : BitVec 32 := 4#32
  let v172 : BitVec 32 := Scalar.addi v153 c4_i32_143
  ![1, v172.toNat]
def k0_off18 (k0_t1 : Fin k0_t1_loop.trips) : Fin 4 → Nat :=
  let c1_i32_145 : BitVec 32 := 1#32
  let c0_i32_42 : BitVec 32 := 0#32
  let c1_i32_43 : BitVec 32 := 1#32
  let arg13 : BitVec 32 := Scf.iv c0_i32_42 c1_i32_43 k0_t1
  let c0_i32_46 : BitVec 32 := 0#32
  let v44 : BitVec 1 := Scalar.cmpi .sgt arg13 c0_i32_46
  let v45 : BitVec 32 := Scalar.extui v44
  let c0_i32_47 : BitVec 32 := 0#32
  let v46 : BitVec 1 := Scalar.cmpi .slt arg13 c0_i32_47
  let v47 : BitVec 32 := Scalar.extui v46
  let v48 : BitVec 32 := Scalar.subi v45 v47
  let c4_i32_45 : BitVec 32 := 4#32
  let c0_i32_48 : BitVec 32 := 0#32
  let v49 : BitVec 1 := Scalar.cmpi .sgt c4_i32_45 c0_i32_48
  let v50 : BitVec 32 := Scalar.extui v49
  let c0_i32_49 : BitVec 32 := 0#32
  let v51 : BitVec 1 := Scalar.cmpi .slt c4_i32_45 c0_i32_49
  let v52 : BitVec 32 := Scalar.extui v51
  let v53 : BitVec 32 := Scalar.subi v50 v52
  let v54 : BitVec 1 := Scalar.cmpi .ne v48 v53
  let v55 : BitVec 32 := Scalar.remsi arg13 c4_i32_45
  let c0_i32_50 : BitVec 32 := 0#32
  let v56 : BitVec 1 := Scalar.cmpi .ne v55 c0_i32_50
  let v57 : BitVec 1 := Scalar.andi v54 v56
  let v43 : BitVec 32 := Scalar.divsi arg13 c4_i32_45
  let c1_i32_51 : BitVec 32 := 1#32
  let v58 : BitVec 32 := Scalar.subi v43 c1_i32_51
  let v59 : BitVec 32 := Scalar.select v57 v58 v43
  let c1_i32_53 : BitVec 32 := 1#32
  let v62 : BitVec 32 := Scalar.subi v59 c1_i32_53
  let c4_i32_127 : BitVec 32 := 4#32
  let v152 : BitVec 32 := Scalar.muli v62 c4_i32_127
  let c4_i32_52 : BitVec 32 := 4#32
  let v60 : BitVec 32 := Scalar.muli v59 c4_i32_52
  let v61 : BitVec 32 := Scalar.subi arg13 v60
  let v153 : BitVec 32 := Scalar.addi v152 v61
  let c4_i32_143 : BitVec 32 := 4#32
  let v172 : BitVec 32 := Scalar.addi v153 c4_i32_143
  let c0_i32_150 : BitVec 32 := 0#32
  let c0_i32_151 : BitVec 32 := 0#32
  ![1, v172.toNat, 0, 0]
def k0_dev4 (d0 : Dev nD) : Nat :=
  let c0_i32_149 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_148 : BitVec 32 := 1#32
  let v173 : BitVec 32 := Scalar.muli v13 c1_i32_148
  let v174 : BitVec 32 := Scalar.addi c0_i32_149 v173
  v174.toNat
def k0_dev5 (d0 : Dev nD) : Nat :=
  let c0_i32_47_r0 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_46_r0 : BitVec 32 := 1#32
  let v44_r0 : BitVec 32 := Scalar.muli v13 c1_i32_46_r0
  let v45_r0 : BitVec 32 := Scalar.addi c0_i32_47_r0 v44_r0
  v45_r0.toNat
def k0_dev6 (d0 : Dev nD) : Nat :=
  let c0_i32_50_r0 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_49_r0 : BitVec 32 := 1#32
  let v46_r0 : BitVec 32 := Scalar.muli v24 c1_i32_49_r0
  let v47_r0 : BitVec 32 := Scalar.addi c0_i32_50_r0 v46_r0
  v47_r0.toNat
-- ==== ReferenceIdeal.lean ====
abbrev S8192x8192 : Shape := ⟨2, ![8192, 8192]⟩
abbrev S8192x4096 : Shape := ⟨2, ![8192, 4096]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x4096, .f32⟩
  | .hbm, ⟨2, _⟩ => ⟨S8192x4096, .f32⟩
  | .hbm, ⟨3, _⟩ => ⟨S_, .f32⟩
  | .hbm, ⟨4, _⟩ => ⟨S8192x4096, .f32⟩
  | .hbm, ⟨5, _⟩ => ⟨S8192x4096, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Geo.lean ====
/-
The geometry of the two-way ring kernel: the neighbours, the buffers' slots, and the kernel's offset, device and
condition chains in closed form over the loop's sixteen trips.

Direction 0 sends to the device after, columns 0–2047 of the result; direction 1 sends to the device before, columns
2048–4095. A trip `i` computes row block `i % 4` of the chunk its direction is at in step `i / 4`.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Transfers
public import Idealize.ShloMosaic.Lib.VecWindow
public import Idealize.ShloMosaic.Lib.Tactic

@[expose] public section

noncomputable section

namespace Cert.TwoRing

open Cert.KernelIdeal Cert.KernelIdeal.Gen

open Idealize.ShloMosaic
open Idealize.ShloMosaic.TcCoe

/-! ## The ring -/

set_option backward.proofsInPublic true in
/-- The device direction `d` sends to. -/
def dest (d : Fin 2) (c : Dev nD) : Dev nD := ⟨(c.val + (if d = 0 then 1 else 3)) % 4, Nat.mod_lt _ (by decide)⟩
set_option backward.proofsInPublic true in
/-- The device direction `d` receives from. -/
def sour (d : Fin 2) (c : Dev nD) : Dev nD := ⟨(c.val + (if d = 0 then 3 else 1)) % 4, Nat.mod_lt _ (by decide)⟩

theorem dest_sour (d : Fin 2) (c : Dev nD) : dest d (sour d c) = c := by revert d c; decide
theorem sour_dest (d : Fin 2) (c : Dev nD) : sour d (dest d c) = c := by revert d c; decide

/-- Going one device along direction `d`. -/
def ring (d : Fin 2) : Dev nD ≃ Dev nD := ⟨dest d, sour d, sour_dest d, dest_sour d⟩

theorem dev1_eq (c : Dev nD) : (⟨k0_dev1 c, k0_dev1_lt c⟩ : Dev nD) = sour 0 c := by revert c; decide +kernel
theorem dev2_eq (c : Dev nD) : (⟨k0_dev2 c, k0_dev2_lt c⟩ : Dev nD) = sour 1 c := by revert c; decide +kernel
theorem dev3_val (c : Dev nD) : k0_dev3 c = (dest 0 c).val := by revert c; decide +kernel
theorem dev4_val (c : Dev nD) : k0_dev4 c = (dest 1 c).val := by revert c; decide +kernel
theorem dev5_eq (c : Dev nD) : (⟨k0_dev5 c, k0_dev5_lt c⟩ : Dev nD) = sour 0 c := by revert c; decide +kernel
theorem dev6_eq (c : Dev nD) : (⟨k0_dev6 c, k0_dev6_lt c⟩ : Dev nD) = sour 1 c := by revert c; decide +kernel

/-! ## The buffers, whole -/

abbrev xM : Memref sig .tc .hbm S8192x2048 .f32 := Memref.whole main_arg0
abbrev wM : Memref sig .tc .hbm S2048x4096 .f32 := Memref.whole main_arg1
abbrev oM : Memref sig .tc .hbm S2048x4096 .f32 := Memref.whole main_v1_0
abbrev rM : Memref sig .tc .hbm S2x12x512x2048 .f32 := Memref.whole main_v1_1
abbrev sM : Memref sig .tc .hbm S2x4x512x2048 .f32 := Memref.whole main_v1_2
abbrev stM : Memref sig .tc .vmem S512x2048 .f32 := Memref.whole cc0_scratch2
abbrev xtM : Memref sig .tc .vmem S512x1024 .f32 := Memref.whole cc0_scratch3
abbrev wcM : Memref sig .tc .vmem S2x2x1024x2048 .f32 := Memref.whole cc0_scratch4

/-- Direction `d`'s accumulator. -/
abbrev cM (d : Fin 2) : Memref sig .tc .vmem S512x2048 .f32 :=
  match d with
  | 0 => Memref.whole cc0_scratch0
  | 1 => Memref.whole cc0_scratch1

/-! ## The slots -/

theorem r_inb (d : Fin 2) (st : Fin 12) : ∀ a, (![d.val, st.val, 0, 0] : Fin 4 → ℕ) a + S1x1x512x2048.size a ≤ S2x12x512x2048.size a := by
  revert d st; decide
theorem s_inb (d : Fin 2) (b : Fin 4) : ∀ a, (![d.val, b.val, 0, 0] : Fin 4 → ℕ) a + S1x1x512x2048.size a ≤ S2x4x512x2048.size a := by
  revert d b; decide
theorem w_inb (d kt : Fin 2) : ∀ a, (![d.val, kt.val, 0, 0] : Fin 4 → ℕ) a + S1x1x1024x2048.size a ≤ S2x2x1024x2048.size a := by
  revert d kt; decide
theorem o_inb (d : Fin 2) (b : Fin 4) : ∀ a, (![512 * b.val, 2048 * d.val] : Fin 2 → ℕ) a + S512x2048.size a ≤ S2048x4096.size a := by
  revert d b; decide
theorem wa_inb (d kt : Fin 2) : ∀ a, (![1024 * kt.val, 2048 * d.val] : Fin 2 → ℕ) a + S1024x2048.size a ≤ S2048x4096.size a := by
  revert d kt; decide
theorem q_inb (d : Fin 2) (st : Fin 12) : ∀ a, (![d.val, st.val] : Fin 2 → ℕ) a + S1x1.size a ≤ S2x12.size a := by
  revert d st; decide

/-- Receive slot `(d, st)`. -/
abbrev rSlot (d : Fin 2) (st : Fin 12) : Memref sig .tc .hbm S512x2048 .f32 :=
  (rM.slice (Rect.unit (s := S2x12x512x2048) ![d.val, st.val, 0, 0] S1x1x512x2048.size (r_inb d st)) (fun _ => rfl)).squeeze S512x2048 squeezes_S1x1x512x2048_S512x2048
/-- Send slot `(d, b)`. -/
abbrev sSlot (d : Fin 2) (b : Fin 4) : Memref sig .tc .hbm S512x2048 .f32 :=
  (sM.slice (Rect.unit (s := S2x4x512x2048) ![d.val, b.val, 0, 0] S1x1x512x2048.size (s_inb d b)) (fun _ => rfl)).squeeze S512x2048 squeezes_S1x1x512x2048_S512x2048
/-- Plane `(d, kt)` of the staged weights. -/
abbrev wSlot (d kt : Fin 2) : Memref sig .tc .vmem S1024x2048 .f32 :=
  (wcM.slice (Rect.unit (s := S2x2x1024x2048) ![d.val, kt.val, 0, 0] S1x1x1024x2048.size (w_inb d kt)) (fun _ => rfl)).squeeze S1024x2048 squeezes_S1x1x1024x2048_S1024x2048
/-- Block `(d, b)` of the result: rows `512 b …`, direction `d`'s columns. -/
abbrev oSlot (d : Fin 2) (b : Fin 4) : Memref sig .tc .hbm S512x2048 .f32 :=
  oM.slice (Rect.unit (s := S2048x4096) ![512 * b.val, 2048 * d.val] S512x2048.size (o_inb d b)) (fun _ => rfl)
/-- Tile `(d, kt)` of the weights: rows `1024 kt …`, direction `d`'s columns. -/
abbrev wTile (d kt : Fin 2) : Memref sig .tc .hbm S1024x2048 .f32 :=
  wM.slice (Rect.unit (s := S2048x4096) ![1024 * kt.val, 2048 * d.val] S1024x2048.size (wa_inb d kt)) (fun _ => rfl)

/-- The row of `x` direction `d` reads at trip `i` on device `c`: block `i % 4` of the chunk of step `i / 4`. -/
def xRow (d : Fin 2) (c : Dev nD) (i : ℕ) : ℕ := 2048 * ((c.val + (if d = 0 then 3 - i / 4 else 1 + i / 4)) % 4) + 512 * (i % 4)

theorem xRow_le (d : Fin 2) (c : Dev nD) (i : ℕ) : xRow d c i + 512 ≤ 8192 := by unfold xRow; omega

theorem x_inb (d : Fin 2) (c : Dev nD) (i : ℕ) (kt : Fin 2) :
    ∀ a, (![xRow d c i, 1024 * kt.val] : Fin 2 → ℕ) a + S512x1024.size a ≤ S8192x2048.size a := by
  have h := xRow_le d c i
  have hk := kt.isLt
  intro a; fin_cases a
  · exact h
  · show 1024 * kt.val + 1024 ≤ 2048; omega

/-- The tile of `x` read at trip `i`, half `kt`. -/
abbrev xTile (d : Fin 2) (c : Dev nD) (i : ℕ) (kt : Fin 2) : Memref sig .tc .hbm S512x1024 .f32 :=
  xM.slice (Rect.unit (s := S8192x2048) ![xRow d c i, 1024 * kt.val] S512x1024.size (x_inb d c i kt)) (fun _ => rfl)

/-! ## The chains in closed form -/

theorem trips_eq : k0_t1_loop.trips = 16 := by decide
theorem trip_lt (k : Fin k0_t1_loop.trips) : k.val < 16 := trips_eq ▸ k.isLt

section Forms
variable (c : Dev nD) (k : Fin k0_t1_loop.trips)

theorem off1_eq : k0_off1 c k = ![xRow 0 c k.val, 1024 * (0 : Fin 2).val] := by revert c k; decide +kernel
theorem off2_eq : k0_off2 c k = ![xRow 0 c k.val, 1024 * (1 : Fin 2).val] := by revert c k; decide +kernel
theorem off10_eq : k0_off10 c k = ![xRow 1 c k.val, 1024 * (0 : Fin 2).val] := by revert c k; decide +kernel
theorem off11_eq : k0_off11 c k = ![xRow 1 c k.val, 1024 * (1 : Fin 2).val] := by revert c k; decide +kernel

theorem cond1_eq : k0_cond1 k = if 4 ≤ k.val then 1#1 else 0#1 := by revert k; decide +kernel
theorem cond6_eq : k0_cond6 k = if 4 ≤ k.val then 1#1 else 0#1 := by revert k; decide +kernel
theorem cond3_eq : k0_cond3 k = if 12 ≤ k.val then 1#1 else 0#1 := by revert k; decide +kernel
theorem cond8_eq : k0_cond8 k = if 12 ≤ k.val then 1#1 else 0#1 := by revert k; decide +kernel
theorem cond4_eq : k0_cond4 k = if k.val < 12 then 1#1 else 0#1 := by revert k; decide +kernel
theorem cond9_eq : k0_cond9 k = if k.val < 12 then 1#1 else 0#1 := by revert k; decide +kernel

theorem off3_eq : 4 ≤ k.val → k0_off3 k = ![(0 : Fin 2).val, k.val - 4] := by revert k; decide +kernel
theorem off12_eq : 4 ≤ k.val → k0_off12 k = ![(1 : Fin 2).val, k.val - 4] := by revert k; decide +kernel
theorem off4_eq : 4 ≤ k.val → k0_off4 k = ![(0 : Fin 2).val, k.val % 4, 0, 0] := by revert k; decide +kernel
theorem off13_eq : 4 ≤ k.val → k0_off13 k = ![(1 : Fin 2).val, k.val % 4, 0, 0] := by revert k; decide +kernel
theorem off5_eq : 4 ≤ k.val → k0_off5 k = ![(0 : Fin 2).val, k.val - 4, 0, 0] := by revert k; decide +kernel
theorem off14_eq : 4 ≤ k.val → k0_off14 k = ![(1 : Fin 2).val, k.val - 4, 0, 0] := by revert k; decide +kernel
theorem off6_eq : 12 ≤ k.val → k0_off6 k = ![512 * (k.val % 4), 2048 * (0 : Fin 2).val] := by revert k; decide +kernel
theorem off15_eq : 12 ≤ k.val → k0_off15 k = ![512 * (k.val % 4), 2048 * (1 : Fin 2).val] := by revert k; decide +kernel
theorem off7_eq : k.val < 12 → k0_off7 k = ![(0 : Fin 2).val, k.val % 4, 0, 0] := by revert k; decide +kernel
theorem off16_eq : k.val < 12 → k0_off16 k = ![(1 : Fin 2).val, k.val % 4, 0, 0] := by revert k; decide +kernel
theorem off8_eq : k.val < 12 → k0_off8 k = ![(0 : Fin 2).val, k.val] := by revert k; decide +kernel
theorem off17_eq : k.val < 12 → k0_off17 k = ![(1 : Fin 2).val, k.val] := by revert k; decide +kernel
theorem off9_eq : k.val < 12 → k0_off9 k = ![(0 : Fin 2).val, k.val, 0, 0] := by revert k; decide +kernel
theorem off18_eq : k.val < 12 → k0_off18 k = ![(1 : Fin 2).val, k.val, 0, 0] := by revert k; decide +kernel

end Forms

/-! ## Slots are disjoint and cover their buffers -/

/-- The slots of a buffer of four axes along its first two. -/
theorem quad_disjoint {A B R C : ℕ} (inb : ∀ p : Fin A × Fin B, ∀ a, (![p.1.val, p.2.val, 0, 0] : Fin 4 → ℕ) a + (⟨4, ![1, 1, R, C]⟩ : Shape).size a ≤ (⟨4, ![A, B, R, C]⟩ : Shape).size a)
    (p p' : Fin A × Fin B) (h : p ≠ p') :
    Disjoint (Rect.unit (s := ⟨4, ![A, B, R, C]⟩) ![p.1.val, p.2.val, 0, 0] ![1, 1, R, C] (inb p)).set
      (Rect.unit (s := ⟨4, ![A, B, R, C]⟩) ![p'.1.val, p'.2.val, 0, 0] ![1, 1, R, C] (inb p')).set := by
  rw [Finset.disjoint_left]
  intro i hi hi'
  rw [Rect.mem_set_unit] at hi hi'
  have h0 := hi 0; have h0' := hi' 0
  have h1 := hi 1; have h1' := hi' 1
  refine h (Prod.ext (Fin.ext ?_) (Fin.ext ?_))
  · change p.1.val ≤ _ ∧ _ < p.1.val + 1 at h0; change p'.1.val ≤ _ ∧ _ < p'.1.val + 1 at h0'; omega
  · change p.2.val ≤ _ ∧ _ < p.2.val + 1 at h1; change p'.2.val ≤ _ ∧ _ < p'.2.val + 1 at h1'; omega

/-- They cover it. -/
theorem quad_cover {A B R C : ℕ} (inb : ∀ p : Fin A × Fin B, ∀ a, (![p.1.val, p.2.val, 0, 0] : Fin 4 → ℕ) a + (⟨4, ![1, 1, R, C]⟩ : Shape).size a ≤ (⟨4, ![A, B, R, C]⟩ : Shape).size a) :
    (Finset.univ : Finset (Fin A × Fin B)).biUnion (fun p => (Rect.unit (s := ⟨4, ![A, B, R, C]⟩) ![p.1.val, p.2.val, 0, 0] ![1, 1, R, C] (inb p)).set) = Finset.univ := by
  ext i
  simp only [Finset.mem_biUnion, Finset.mem_univ, true_and, iff_true]
  refine ⟨(⟨(i 0).val, (i 0).isLt⟩, ⟨(i 1).val, (i 1).isLt⟩), ?_⟩
  rw [Rect.mem_set_unit]
  intro a
  fin_cases a
  · exact ⟨le_refl _, Nat.lt_succ_self _⟩
  · exact ⟨le_refl _, Nat.lt_succ_self _⟩
  · exact ⟨Nat.zero_le _, by have := (i 2).isLt; change (i 2).val < 0 + R; rw [Nat.zero_add]; exact this⟩
  · exact ⟨Nat.zero_le _, by have := (i 3).isLt; change (i 3).val < 0 + C; rw [Nat.zero_add]; exact this⟩

theorem rSlot_set (p : Fin 2 × Fin 12) : (rSlot p.1 p.2).view.set = (Rect.unit (s := S2x12x512x2048) ![p.1.val, p.2.val, 0, 0] S1x1x512x2048.size (r_inb p.1 p.2)).set := by
  simp only [rSlot, Memref.view_squeeze, View.set_reshape]; exact View.set_slice_whole main_v1_1 _
theorem sSlot_set (p : Fin 2 × Fin 4) : (sSlot p.1 p.2).view.set = (Rect.unit (s := S2x4x512x2048) ![p.1.val, p.2.val, 0, 0] S1x1x512x2048.size (s_inb p.1 p.2)).set := by
  simp only [sSlot, Memref.view_squeeze, View.set_reshape]; exact View.set_slice_whole main_v1_2 _
theorem wSlot_set (p : Fin 2 × Fin 2) : (wSlot p.1 p.2).view.set = (Rect.unit (s := S2x2x1024x2048) ![p.1.val, p.2.val, 0, 0] S1x1x1024x2048.size (w_inb p.1 p.2)).set := by
  simp only [wSlot, Memref.view_squeeze, View.set_reshape]; exact View.set_slice_whole cc0_scratch4 _
theorem oSlot_set (p : Fin 2 × Fin 4) : (oSlot p.1 p.2).view.set = (Rect.unit (s := S2048x4096) ![512 * p.2.val, 2048 * p.1.val] S512x2048.size (o_inb p.1 p.2)).set :=
  View.set_slice_whole main_v1_0 _

theorem rSlot_disjoint (p p' : Fin 2 × Fin 12) (h : p ≠ p') : Disjoint (rSlot p.1 p.2).view.set (rSlot p'.1 p'.2).view.set := by
  rw [rSlot_set, rSlot_set]; exact quad_disjoint (fun p => r_inb p.1 p.2) p p' h
theorem sSlot_disjoint (p p' : Fin 2 × Fin 4) (h : p ≠ p') : Disjoint (sSlot p.1 p.2).view.set (sSlot p'.1 p'.2).view.set := by
  rw [sSlot_set, sSlot_set]; exact quad_disjoint (fun p => s_inb p.1 p.2) p p' h
theorem wSlot_disjoint (p p' : Fin 2 × Fin 2) (h : p ≠ p') : Disjoint (wSlot p.1 p.2).view.set (wSlot p'.1 p'.2).view.set := by
  rw [wSlot_set, wSlot_set]; exact quad_disjoint (fun p => w_inb p.1 p.2) p p' h
/-- The elements of weight plane `p`. -/
abbrev wPlane (p : Fin 2 × Fin 2) : Finset S2x2x1024x2048.Idx :=
  (Rect.unit (s := S2x2x1024x2048) ![p.1.val, p.2.val, 0, 0] S1x1x1024x2048.size (w_inb p.1 p.2)).set
theorem wPlane_disjoint (p p' : Fin 2 × Fin 2) (h : p ≠ p') : Disjoint (wPlane p) (wPlane p') := quad_disjoint (fun p => w_inb p.1 p.2) p p' h
theorem wPlane_cover : Finset.univ.biUnion wPlane = Finset.univ := quad_cover (fun p => w_inb p.1 p.2)
theorem oSlot_disjoint (p p' : Fin 2 × Fin 4) (h : p ≠ p') : Disjoint (oSlot p.1 p.2).view.set (oSlot p'.1 p'.2).view.set := by
  rw [oSlot_set, oSlot_set, Finset.disjoint_left]
  intro i hi hi'
  rw [Rect.mem_set_unit] at hi hi'
  have h0 := hi 0; have h0' := hi' 0
  have h1 := hi 1; have h1' := hi' 1
  change 512 * p.2.val ≤ _ ∧ _ < 512 * p.2.val + 512 at h0
  change 512 * p'.2.val ≤ _ ∧ _ < 512 * p'.2.val + 512 at h0'
  change 2048 * p.1.val ≤ _ ∧ _ < 2048 * p.1.val + 2048 at h1
  change 2048 * p'.1.val ≤ _ ∧ _ < 2048 * p'.1.val + 2048 at h1'
  exact h (Prod.ext (Fin.ext (by omega)) (Fin.ext (by omega)))

end Cert.TwoRing

end
-- ==== Proof.Sched.lean ====
/-
The protocol of the two-way ring kernel under the rounds library: its cells, what each signal hands over, what each core
owes, and the contents every hop carries (over any float values).
-/
module

public import proofs.«01_k».proof.Proof.Geo

@[expose] public section

noncomputable section

namespace Cert.TwoRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

abbrev UB : Type := URounds (GSem nD τ sig) (Fin 2)
abbrev UU : Type := UR sig nD τ × (UB × Counters)

local notation "𝕄" => MT nD τ sig Unit (Elt F) ℕ UU ℕ

abbrev EP : Emb (UR sig nD τ) (MT nD τ sig Unit (Elt F) ℕ UU ℕ) := embL
/-- The ring's copy of the rounds algebra. -/
def ER : Emb UB (MT nD τ sig Unit (Elt F) ℕ UU ℕ) :=
  ((Emb.inl : Emb UB (UB × Counters)).trans (Emb.inr : Emb (UB × Counters) UU)).trans
    ((uEmb : UEmb UU (MT nD τ sig Unit (Elt F) ℕ UU ℕ)).toEmb)
instance ER_landsIn : (ER : Emb UB 𝕄).LandsIn (upEmb : UEmb _ 𝕄) := by unfold ER; infer_instance
/-- The counters' copy, for the transfers a core makes within its own memories. -/
abbrev EC : UEmb Counters (MT nD τ sig Unit (Elt F) ℕ UU ℕ) := countersEmb (U := UU)

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

abbrev 𝒱₀ : Variants := Variants.none

/-! ## The cells -/

/-- The cells of a core that other cores credit, and the send cells beside them: sends, receives, then the second
    handshake's and the barrier's. -/
abbrev CK : Type := ((Fin 2 × Fin 12) ⊕ (Fin 2 × Fin 12)) ⊕ Fin 2

set_option backward.proofsInPublic true in
def sendS (d : Fin 2) (st : Fin 12) : DmaSem sig := (⟨12 * d.val + st.val, by omega⟩ : Fin 49)
set_option backward.proofsInPublic true in
def recvS (d : Fin 2) (st : Fin 12) : DmaSem sig := (⟨24 + 12 * d.val + st.val, by omega⟩ : Fin 49)
abbrev locS : DmaSem sig := cc0_scratch7.sem
abbrev barS : Sem sig := (SemArray.scalar (sig.barrier 0 rfl) : Sems sig S_).sem
abbrev secS : Sem sig := cc0_scoped0.sem

theorem sendS_eq (d : Fin 2) (st : Fin 12) :
    ((cc0_scratch5.slice (Rect.unit (s := S2x12) ![d.val, st.val] S1x1.size (q_inb d st))).squeeze S_ squeezes_S1x1_S_).sem = sendS d st := by
  revert d st; decide +kernel
theorem recvS_eq (d : Fin 2) (st : Fin 12) :
    ((cc0_scratch6.slice (Rect.unit (s := S2x12) ![d.val, st.val] S1x1.size (q_inb d st))).squeeze S_ squeezes_S1x1_S_).sem = recvS d st := by
  revert d st; decide +kernel

def csem : CK → SemLoc sig
  | .inl (.inl p) => .dma (sendS p.1 p.2)
  | .inl (.inr p) => .dma (recvS p.1 p.2)
  | .inr 0 => .reg secS
  | .inr 1 => .reg barS

set_option backward.proofsInPublic true in
/-- Which of the protocol's cells a semaphore is. -/
def decode : SemLoc sig → Option CK
  | .reg s => if s = barS then some (.inr 1) else some (.inr 0)
  | .dma s => if h : s.val < 24 then some (.inl (.inl (⟨s.val / 12, by omega⟩, ⟨s.val % 12, Nat.mod_lt _ (by decide)⟩)))
      else if h' : s.val < 48 then some (.inl (.inr (⟨(s.val - 24) / 12, by omega⟩, ⟨(s.val - 24) % 12, Nat.mod_lt _ (by decide)⟩)))
      else none

theorem decode_csem (k : CK) : decode (csem k) = some k := by revert k; decide +kernel
theorem decode_loc : decode (.dma locS) = none := by decide +kernel

theorem csem_injective : Function.Injective csem := fun a b h => by
  have := congrArg decode h
  rw [decode_csem, decode_csem] at this
  exact Option.some.inj this

abbrev kcell (ck : Dev nD × CK) : GSem nD τ sig := ((ck.1 : Thread nD τ), csem ck.2)

theorem kcell_injective : Function.Injective (kcell : Dev nD × CK → GSem nD τ sig) := by
  rintro ⟨c, k⟩ ⟨c', k'⟩ h
  have h1 : c = c' := congrArg (fun g : GSem nD τ sig => g.1.1) h
  have h2 : k = k' := csem_injective (congrArg Prod.snd h)
  rw [h1, h2]

abbrev kSnd (c : Dev nD) (d : Fin 2) (st : Fin 12) : GSem nD τ sig := ((c : Thread nD τ), .dma (sendS d st))
abbrev kRcv (c : Dev nD) (d : Fin 2) (st : Fin 12) : GSem nD τ sig := ((c : Thread nD τ), .dma (recvS d st))
abbrev kSec (c : Dev nD) : GSem nD τ sig := ((c : Thread nD τ), .reg secS)
abbrev kBar (c : Dev nD) : GSem nD τ sig := ((c : Thread nD τ), .reg barS)

/-- The credit of one block of 512 × 2048 elements. -/
@[irreducible] def N : ℕ := (rSlot 0 0).view.dmaCredit
theorem N_pos : 0 < N := by unfold N; exact View.dmaCredit_pos _ (by decide)
theorem credit_r (d : Fin 2) (st : Fin 12) : (rSlot d st).view.dmaCredit = N := by unfold N; rfl
theorem credit_s (d : Fin 2) (b : Fin 4) : (sSlot d b).view.dmaCredit = N := by unfold N; rfl

/-! ## Contents -/

abbrev Blk (F : FTy → Type) : Type := Vec F S512x2048 .f32

/-- The tile of `x` at trip `i`, half `kt`. -/
def xt (d : Fin 2) (c : Dev nD) (i : ℕ) (kt : Fin 2) : Vec F S512x1024 .f32 :=
  (xTile d c i kt).view.read (Elt F) (m ((c : Thread nD τ).loc main_arg0))
/-- The tile of the weights, half `kt` of direction `d`. -/
def wt (d : Fin 2) (c : Dev nD) (kt : Fin 2) : Vec F S1024x2048 .f32 :=
  (wTile d kt).view.read (Elt F) (m ((c : Thread nD τ).loc main_arg1))
/-- A weight plane as the load of its staging buffer returns it. -/
def unsq (X : Vec F S1024x2048 .f32) : Vec F S1x1x1024x2048 .f32 :=
  fun j => X ((Shape.reshapeEquiv squeezes_S1x1x1024x2048_S1024x2048.numel_eq).symm j)

/-- The partial product a core computes in direction `d` at trip `i`. -/
def part (d : Fin 2) (c : Dev nD) (i : ℕ) : Blk F :=
  k0_pay2 (xt m d c i 1) (unsq (wt m d c 1)) (k0_pay1 (xt m d c i 0) (unsq (wt m d c 0)))

/-- What a core holds of row block `b` after step `s`: its partial product plus what came along direction `d`. -/
def acc (d : Fin 2) : ℕ → Dev nD → ℕ → Blk F
  | 0, c, b => part m d c b
  | s + 1, c, b => k0_pay3 (part m d c (4 * (s + 1) + b)) (acc d s (sour d c) b)

/-- What trip `i` sends. -/
def sent (d : Fin 2) (c : Dev nD) (i : ℕ) : Blk F := acc m d (i / 4) c (i % 4)

theorem sent_early (d : Fin 2) (c : Dev nD) (i : ℕ) (h : i < 4) : sent m d c i = part m d c i := by
  unfold sent; rw [Nat.div_eq_of_lt h, Nat.mod_eq_of_lt h]; rfl
theorem sent_late (d : Fin 2) (c : Dev nD) (i : ℕ) (h : 4 ≤ i) : sent m d c i = k0_pay3 (part m d c i) (sent m d (sour d c) (i - 4)) := by
  unfold sent
  obtain ⟨j, rfl⟩ : ∃ j, i = j + 4 := ⟨i - 4, by omega⟩
  rw [Nat.add_sub_cancel, Nat.add_div_right j (by decide), Nat.add_mod_right]
  show k0_pay3 (part m d c (4 * (j / 4 + 1) + j % 4)) _ = _
  rw [show 4 * (j / 4 + 1) + j % 4 = j + 4 by omega]

/-- Block `(d, b)` of the result. -/
def final (d : Fin 2) (c : Dev nD) (b : Fin 4) : Blk F := k0_pay4 (part m d c (12 + b.val)) (sent m d (sour d c) (8 + b.val))

/-! ## The schedule -/

/-- Some contents of a memref. -/
abbrev some' {sp : Space} {s : Shape} {e : EltTy} (c : Dev nD) (b : Memref sig .tc sp s e) : sProp 𝕄 :=
  iprop(∃ X, owns (c : Thread nD τ) b fullShare X)

/-- What the barrier signal of duty `d` hands core `c`: the receive slots of direction `d` of the core it sends to. -/
def barPay (c : Dev nD) (d : Fin 2) : sProp 𝕄 := bigSep Finset.univ fun st : Fin 12 => some' (dest d c) (rSlot d st)
def sndPay (c : Dev nD) (d : Fin 2) (st : Fin 12) : sProp 𝕄 := some' c (sSlot d ⟨st.val % 4, Nat.mod_lt _ (by decide)⟩)
def rcvPay (c : Dev nD) (d : Fin 2) (st : Fin 12) : sProp 𝕄 := owns (c : Thread nD τ) (rSlot d st) fullShare (sent m d (sour d c) st.val)

def payOf (c : Dev nD) (d : Fin 2) : CK → sProp 𝕄
  | .inl (.inl p) => sndPay c p.1 p.2
  | .inl (.inr p) => rcvPay m c p.1 p.2
  | .inr 0 => iprop(emp)
  | .inr 1 => barPay c d

def dutOf : CK → Finset (Fin 2)
  | .inl _ => {0}
  | .inr _ => Finset.univ
def amtOf : CK → ℕ
  | .inl _ => N
  | .inr _ => 1
theorem amtOf_pos (k : CK) : 0 < amtOf k := by
  cases k with
  | inl _ => exact N_pos
  | inr _ => exact Nat.one_pos

/-- One round: a send or receive cell has one duty, of a block's credit; a handshake cell one duty per direction. -/
def ringRd : Rounds.Schedule (GSem nD τ sig) (Fin 2) 𝕄 where
  duties g r := if r = 0 ∧ g.1.2 = .tc then (decode g.2).elim ∅ dutOf else ∅
  unitless _ := False
  amount g _ _ := (decode g.2).elim 1 amtOf
  payload g _ d := (decode g.2).elim iprop(emp) (payOf m g.1.1 d)
  amount_pos g _ _ _ := by
    cases decode g.2 with
    | none => exact Nat.one_pos
    | some k => exact amtOf_pos k

instance payOf_storable (c : Dev nD) (d : Fin 2) (k : CK) : BI.Storable (upEmb : UEmb _ 𝕄) (payOf (F := F) m c d k) := by
  unfold payOf; split
  · unfold sndPay; infer_instance
  · unfold rcvPay; infer_instance
  · infer_instance
  · unfold barPay; infer_instance

instance ringRd_payload_storable (g : GSem nD τ sig) (r : ℕ) (d : Fin 2) :
    BI.Storable (upEmb : UEmb _ 𝕄) ((ringRd (F := F) m).payload g r d) := by
  show BI.Storable upEmb ((decode g.2).elim iprop(emp) (payOf m g.1.1 d))
  cases decode g.2 with
  | none => show BI.Storable upEmb iprop(emp); infer_instance
  | some k => show BI.Storable upEmb (payOf m g.1.1 d k); infer_instance

section Sched
variable (c : Dev nD) (k : CK)

theorem duties_at : (ringRd m).duties (kcell (c, k)) 0 = dutOf k := by
  dsimp only [ringRd]; rw [if_pos ⟨rfl, rfl⟩, decode_csem]; rfl
theorem duties_later (g : GSem nD τ sig) : ∀ r, 1 ≤ r → (ringRd (F := F) m).duties g r = ∅ :=
  fun r hr => by dsimp only [ringRd]; rw [if_neg fun h => by omega]
theorem amount_at (d : Fin 2) : (ringRd m).amount (kcell (c, k)) 0 d = amtOf k := by
  dsimp only [ringRd]; rw [decode_csem]; rfl
theorem payload_at (d : Fin 2) : (ringRd m).payload (kcell (c, k)) 0 d = payOf m c d k := by
  dsimp only [ringRd]; rw [decode_csem]; rfl
theorem expect_at : (ringRd m).expect (kcell (c, k)) 0 = (dutOf k).card * amtOf k := by
  unfold Schedule.expect Schedule.amountOf
  rw [duties_at, Finset.sum_congr rfl fun d _ => amount_at m c k d, Finset.sum_const, smul_eq_mul]
theorem rest_at : bigSep ((ringRd (F := F) m).duties (kcell (c, k)) 0 \ ∅) (fun d => (ringRd (F := F) m).payload (kcell (c, k)) 0 d)
    = bigSep (dutOf k) fun d => payOf m c d k := by
  rw [Finset.sdiff_empty, duties_at]; exact bigSep_congr fun d _ => payload_at m c k d

end Sched

/-! ## Levels -/

def L (g : GSem nD τ sig) : Finset Unit := if g.1.2 = .tc then {()} else ∅
def lvOf : CK → ℕ
  | .inl (.inl _) => 0
  | .inl (.inr p) => 2 + p.2.val
  | .inr 0 => 20
  | .inr 1 => 1
/-- Barrier cells at 1, the receive cell of trip `st` at `2 + st`, the second handshake's at 20, everything else at 0. -/
def lv (g : GSem nD τ sig) (_ : Unit) : ℕ := (decode g.2).elim 0 lvOf

theorem L_of_ne (g : GSem nD τ sig) (h : g.1.2 ≠ .tc) : L g = ∅ := if_neg h
theorem L_tc (c : Dev nD) (sm : SemLoc sig) : L ((c : Thread nD τ), sm) = {()} := if_pos rfl
theorem lv_at (c : Dev nD) (k : CK) : lv (kcell (c, k)) () = lvOf k := by unfold lv; rw [decode_csem]; rfl
theorem lv_rcv (c : Dev nD) (d : Fin 2) (st : Fin 12) : lv (kRcv c d st) () = 2 + st.val := lv_at c (.inl (.inr (d, st)))
theorem lv_snd (c : Dev nD) (d : Fin 2) (st : Fin 12) : lv (kSnd c d st) () = 0 := lv_at c (.inl (.inl (d, st)))
theorem lv_sec (c : Dev nD) : lv (kSec c) () = 20 := lv_at c (.inr 0)
theorem lv_bar (c : Dev nD) : lv (kBar c) () = 1 := lv_at c (.inr 1)
theorem lv_loc (c : Dev nD) : lv ((c : Thread nD τ), .dma locS) () = 0 := by unfold lv; rw [decode_loc]; rfl

theorem mayWait_lt (c : Dev nD) (sm : SemLoc sig) (O : CellTallies nD τ sig Unit)
    (h : ∀ g u, 0 < O g u → g.1.2 = .tc ∧ lv ((c : Thread nD τ), sm) () < lv g ()) :
    (levAts L lv : sProp 𝕄) ⊢ MayWait (c : Thread nD τ) sm () O :=
  MayOwe.of_cut (L := L) (lev := lv) (lv ((c : Thread nD τ), sm) ())
    (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp])
    (fun g u hg => (h g u hg).2)

/-! ## What a core owes -/

/-- Direction `d`'s transfers from trip `s` on. -/
def Odir (c : Dev nD) (d : Fin 2) (s : ℕ) : CellTallies nD τ sig Unit :=
  ∑ st : Fin 12, if s ≤ st.val then tallyAt (kRcv (dest d c) d st) () N else 0
/-- The second handshake's signals. -/
def Osec (c : Dev nD) : CellTallies nD τ sig Unit := tallyAt (kSec (sour 1 c)) () 1 + tallyAt (kSec (sour 0 c)) () 1
/-- Both directions' transfers from trips `s0` and `s1` on, and the second handshake. -/
def Ow (c : Dev nD) (s0 s1 : ℕ) : CellTallies nD τ sig Unit := Odir c 0 s0 + (Odir c 1 s1 + Osec c)
def O₁ (c : Dev nD) : CellTallies nD τ sig Unit := Ow c 0 0 + tallyAt (kBar (sour 1 c)) () 1
def O₀ (c : Dev nD) : CellTallies nD τ sig Unit := O₁ c + tallyAt (kBar (sour 0 c)) () 1

theorem Odir_succ (c : Dev nD) (d : Fin 2) (s : Fin 12) : Odir c d s.val = Odir c d (s.val + 1) + tallyAt (kRcv (dest d c) d s) () N := by
  unfold Odir
  rw [← Finset.sum_erase_add _ _ (Finset.mem_univ s), ← Finset.sum_erase_add (s := Finset.univ) (a := s)
    (fun st : Fin 12 => if s.val + 1 ≤ st.val then tallyAt (kRcv (dest d c) d st) () N else 0) (Finset.mem_univ s),
    if_pos (le_refl _), if_neg (by omega), add_zero]
  congr 1
  refine Finset.sum_congr rfl fun st hst => ?_
  have hne : st.val ≠ s.val := fun h => Finset.ne_of_mem_erase hst (Fin.ext h)
  by_cases h : s.val ≤ st.val
  · rw [if_pos h, if_pos (by omega)]
  · rw [if_neg h, if_neg (by omega)]
theorem Odir_end (c : Dev nD) (d : Fin 2) (s : ℕ) (h : 12 ≤ s) : Odir c d s = 0 :=
  Finset.sum_eq_zero fun st _ => if_neg (by omega)

theorem Ow_succ0 (c : Dev nD) (s : Fin 12) (s1 : ℕ) : Ow c s.val s1 = Ow c (s.val + 1) s1 + tallyAt (kRcv (dest 0 c) 0 s) () N := by
  unfold Ow; rw [Odir_succ c 0 s]; exact add_right_comm _ _ _
theorem Ow_succ1 (c : Dev nD) (s0 : ℕ) (s : Fin 12) : Ow c s0 s.val = Ow c s0 (s.val + 1) + tallyAt (kRcv (dest 1 c) 1 s) () N := by
  unfold Ow; rw [Odir_succ c 1 s, add_right_comm (Odir c 1 (s.val + 1)), ← add_assoc]
theorem Ow_end (c : Dev nD) (s0 s1 : ℕ) (h0 : 12 ≤ s0) (h1 : 12 ≤ s1) : Ow c s0 s1 = Osec c := by
  unfold Ow; rw [Odir_end c 0 s0 h0, Odir_end c 1 s1 h1, zero_add, zero_add]

theorem tally_pos {g g' : GSem nD τ sig} {u : Unit} {n : ℕ} (h : 0 < (tallyAt g' () n : CellTallies nD τ sig Unit) g u) : g = g' := by
  rw [tallyAt_apply] at h
  by_contra hn
  rw [if_neg (fun h' => hn h'.1)] at h
  exact Nat.lt_irrefl 0 h

theorem Odir_pos {c : Dev nD} {d : Fin 2} {s : ℕ} {g : GSem nD τ sig} {u : Unit} (h : 0 < Odir c d s g u) :
    ∃ st : Fin 12, s ≤ st.val ∧ g = kRcv (dest d c) d st := by
  unfold Odir at h
  rw [Finset.sum_apply, Finsupp.finset_sum_apply] at h
  obtain ⟨st, -, hst⟩ := Finset.exists_ne_zero_of_sum_ne_zero (Nat.pos_iff_ne_zero.mp h)
  by_cases hs : s ≤ st.val
  · rw [if_pos hs] at hst
    exact ⟨st, hs, tally_pos (Nat.pos_iff_ne_zero.mpr hst)⟩
  · rw [if_neg hs] at hst; exact absurd rfl hst

theorem Osec_pos {c : Dev nD} {g : GSem nD τ sig} {u : Unit} (h : 0 < Osec c g u) : g = kSec (sour 1 c) ∨ g = kSec (sour 0 c) := by
  unfold Osec at h
  rw [Pi.add_apply, Finsupp.add_apply] at h
  rcases Nat.eq_zero_or_pos ((tallyAt (kSec (sour 1 c)) () 1 : CellTallies nD τ sig Unit) g u) with h0 | h0
  · rw [h0, Nat.zero_add] at h; exact .inr (tally_pos h)
  · exact .inl (tally_pos h0)

/-- Every cell owed under `Ow` is a tensor core's, at a level above `b`, where `b` is under both thresholds. -/
theorem Ow_pos {c : Dev nD} {s0 s1 b : ℕ} (h0 : b < 2 + s0) (h1 : b < 2 + s1) (hb : b < 20) (g : GSem nD τ sig) (u : Unit)
    (h : 0 < Ow c s0 s1 g u) : g.1.2 = .tc ∧ b < lv g () := by
  unfold Ow at h
  rw [Pi.add_apply, Finsupp.add_apply, Pi.add_apply, Finsupp.add_apply] at h
  rcases Nat.eq_zero_or_pos (Odir c 0 s0 g u) with z0 | z0
  · rcases Nat.eq_zero_or_pos (Odir c 1 s1 g u) with z1 | z1
    · rw [z0, z1, Nat.zero_add, Nat.zero_add] at h
      rcases Osec_pos h with rfl | rfl
      · exact ⟨rfl, by rw [lv_sec]; exact hb⟩
      · exact ⟨rfl, by rw [lv_sec]; exact hb⟩
    · obtain ⟨st, hs, rfl⟩ := Odir_pos z1
      exact ⟨rfl, by rw [lv_rcv]; omega⟩
  · obtain ⟨st, hs, rfl⟩ := Odir_pos z0
    exact ⟨rfl, by rw [lv_rcv]; omega⟩

theorem mayWait_loc (c : Dev nD) (s0 s1 : ℕ) : (levAts L lv : sProp 𝕄) ⊢ MayWait (c : Thread nD τ) (.dma locS) () (Ow c s0 s1) :=
  mayWait_lt c _ _ fun g u h => by rw [lv_loc]; exact Ow_pos (by omega) (by omega) (by omega) g u h
theorem mayWait_snd (c : Dev nD) (d : Fin 2) (st : Fin 12) (s0 s1 : ℕ) :
    (levAts L lv : sProp 𝕄) ⊢ MayWait (c : Thread nD τ) (.dma (sendS d st)) () (Ow c s0 s1) :=
  mayWait_lt c _ _ fun g u h => by rw [lv_snd]; exact Ow_pos (by omega) (by omega) (by omega) g u h
theorem mayWait_rcv (c : Dev nD) (d : Fin 2) (st : Fin 12) (s0 s1 : ℕ) (h0 : st.val < s0) (h1 : st.val < s1) :
    (levAts L lv : sProp 𝕄) ⊢ MayWait (c : Thread nD τ) (.dma (recvS d st)) () (Ow c s0 s1) :=
  mayWait_lt c _ _ fun g u h => by rw [lv_rcv]; exact Ow_pos (by omega) (by omega) (by omega) g u h
theorem mayWait_bar (c : Dev nD) : (levAts L lv : sProp 𝕄) ⊢ MayWait (c : Thread nD τ) (.reg barS) () (Ow c 0 0) :=
  mayWait_lt c _ _ fun g u h => by rw [lv_bar]; exact Ow_pos (by omega) (by omega) (by omega) g u h

end Cert.TwoRing

end
-- ==== Proof.Rules.lean ====
/-
One rule per kind of effect the kernel performs, over whole memrefs held at known contents: a copy within a core, a load,
a store, the load of a weight plane.
-/
module

public import proofs.«01_k».proof.Proof.Sched

@[expose] public section

noncomputable section

namespace Cert.TwoRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The weakest precondition of a program of core `c`. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- Core `c` owes `O`, whatever it has waited for. -/
abbrev owesE (c : Dev nD) (O : CellTallies nD τ sig Unit) : sProp 𝕄 := iprop(∃ W, owes (c : Thread nD τ) O W)

/-- The counter of core `c`'s own copies, at zero. -/
abbrev locZ (c : Dev nD) : sProp 𝕄 := semVal ((c : Thread nD τ), SemLoc.dma locS) 0

variable {α : Type} (c : Dev nD)

/-- Copy within the core, source held among elements `Ss` of its buffer: the destination then reads what the source reads. -/
theorem wp_copyIn {sp sp' : Space} {s : Shape} {src : Memref sig .tc sp s .f32} {dst : Memref sig .tc sp' s .f32}
    {hsrc : src.view.WordExact} {hdst : dst.view.WordExact} {hsem : DmaTarget.Typed (nD := nD) (τ := τ) (p := .tc) sp (.dma locS) (.here dst)}
    {hsrc' : src.view.WordExact} {hdst' : dst.view.WordExact} {k : PUnit → Prog (TpuEff nD τ sig (Elt F) Λ₀ .tc) α} {Q : α → sProp 𝕄}
    (hs : 0 < s.numel) {q : PosShare TreeShare} {Ss : Finset (Idx (src.view.loc (c : Thread nD τ)))} (hSs : src.view.set ⊆ Ss)
    (fs : Buf (Elt F) (src.view.loc (c : Thread nD τ))) (s0 s1 : ℕ) :
    iprop(levAts L lv ∗ (src.view.loc (c : Thread nD τ) ↦[Ss]{q} fs) ∗ some' c dst ∗ locZ c ∗ owesE c (Ow c s0 s1))
      ⊢ iprop((((src.view.loc (c : Thread nD τ) ↦[Ss]{q} fs) ∗ owns (c : Thread nD τ) dst fullShare (src.view.read (Elt F) fs) ∗ locZ c ∗ owesE c (Ow c s0 s1))
            -∗ WP c (k ⟨⟩) Q)
          -∗ WP c (.op (.enqueueDma src (.here dst) (.dma locS) hsrc hdst hsem) fun _ => .op (.waitDma2 locS src dst hsrc' hdst') k) Q) := by
  iintro ⟨#Hlev, Hs, ⟨%X, Hd⟩, Hz, ⟨%W, HO⟩⟩ Hk
  unfold owns
  icases Hd with ⟨%fd, -, Hd⟩
  ihave Hs' := ((pointsTo_split_subset hSs).1) $$ Hs
  icases Hs' with ⟨Hs1, Hs2⟩
  iapply (Transfers.wp_dmaLocal (EC (F := F)) 𝒱₀ (c : Thread nD τ) none () (dst.view.dmaCredit) rfl (View.dmaCredit_pos _ hs) (subset_refl _)) $$ [Hs1 Hd Hz]
  · isplitl [Hs1]; · iexact Hs1
    isplitl [Hd]; · iexact Hd
    iexact Hz
  iintro Hf
  iapply (Transfers.wp_waitLocalO (EC (F := F)) 𝒱₀ (c : Thread nD τ) none () rfl (O := Ow c s0 s1) (W := W)) $$ [Hf HO]
  · isplitl [Hf]; · iexact Hf
    isplitl [HO]; · iexact HO
    iapply (mayWait_loc c s0 s1); iexact Hlev
  iintro ⟨⟨Hd, Hs1⟩, Hz, HO⟩
  iapply Hk
  isplitl [Hs1 Hs2]
  · iapply ((pointsTo_split_subset hSs).2)
    isplitl [Hs1] <;> iassumption
  isplitl [Hd]
  · iexists _; isplitr [Hd]; swap; · iexact Hd
    ipureintro
    exact View.read_write_univ _ _
  isplitl [Hz]; · iexact Hz
  iexists _; iexact HO

/-- The same from a memref held at contents `X`. -/
theorem wp_copy {sp sp' : Space} {s : Shape} {src : Memref sig .tc sp s .f32} {dst : Memref sig .tc sp' s .f32}
    {hsrc : src.view.WordExact} {hdst : dst.view.WordExact} {hsem : DmaTarget.Typed (nD := nD) (τ := τ) (p := .tc) sp (.dma locS) (.here dst)}
    {hsrc' : src.view.WordExact} {hdst' : dst.view.WordExact} {k : PUnit → Prog (TpuEff nD τ sig (Elt F) Λ₀ .tc) α} {Q : α → sProp 𝕄}
    (hs : 0 < s.numel) (X : s.Idx → Elt F .f32) (s0 s1 : ℕ) :
    iprop(levAts L lv ∗ owns (c : Thread nD τ) src fullShare X ∗ some' c dst ∗ locZ c ∗ owesE c (Ow c s0 s1))
      ⊢ iprop(((owns (c : Thread nD τ) src fullShare X ∗ owns (c : Thread nD τ) dst fullShare X ∗ locZ c ∗ owesE c (Ow c s0 s1))
            -∗ WP c (k ⟨⟩) Q)
          -∗ WP c (.op (.enqueueDma src (.here dst) (.dma locS) hsrc hdst hsem) fun _ => .op (.waitDma2 locS src dst hsrc' hdst') k) Q) := by
  iintro ⟨#Hlev, Hs, Hd, Hz, HO⟩ Hk
  ihave Hs' := (show owns (c : Thread nD τ) src fullShare X ⊢ iprop(∃ f, ⌜src.view.read (Elt F) f = X⌝ ∗ src.view.loc (c : Thread nD τ) ↦[src.view.set]{fullShare} f) from .rfl) $$ Hs
  icases Hs' with ⟨%f, %hf, Hs⟩
  subst hf
  iapply (wp_copyIn c hs (subset_refl _) f s0 s1) $$ [Hs Hd Hz HO]
  · isplitr; · iexact Hlev
    isplitl [Hs]; · iexact Hs
    isplitl [Hd]; · iexact Hd
    isplitl [Hz]; · iexact Hz
    iexact HO
  iintro ⟨Hs, Hd, Hz, HO⟩
  iapply Hk
  isplitl [Hs]; · iapply (owns_intro (c : Thread nD τ) src fullShare f); iexact Hs
  isplitl [Hd]; · iexact Hd
  isplitl [Hz]; · iexact Hz
  iexact HO

/-- A load of a whole memref. -/
theorem wp_loadAll {cs : CoreSpace} {s : Shape} {b : Memref sig .tc cs s .f32} {off : Fin s.rank → ℕ} {inb : ∀ a, off a + s.size a ≤ s.size a}
    {hl : b.view.LoadsAt (Rect.unit off s.size inb).toLoadRect} {k : (s.Idx → Elt F .f32) → Prog (TpuEff nD τ sig (Elt F) Λ₀ .tc) α} {Q : α → sProp 𝕄}
    (X : s.Idx → Elt F .f32) :
    owns (c : Thread nD τ) b fullShare X
      ⊢ iprop((owns (c : Thread nD τ) b fullShare X -∗ WP c (k X) Q)
          -∗ WP c (.op (.load b (Rect.unit off s.size inb).toLoadRect hl) k) Q) := by
  iintro Hb Hk
  ihave Hb' := (show owns (c : Thread nD τ) b fullShare X ⊢ iprop(∃ f, ⌜b.view.read (Elt F) f = X⌝ ∗ b.view.loc (c : Thread nD τ) ↦[b.view.set]{fullShare} f) from .rfl) $$ Hb
  icases Hb' with ⟨%f, %hf, Hb⟩
  subst hf
  iapply (wp_load 𝒱₀ (c : Thread nD τ) none Set.univ (m := b) (r := (Rect.unit off s.size inb).toLoadRect)
    (S := b.view.set) (Finset.map_subset_map.mpr (Finset.subset_univ _))) $$ Hb
  iintro Hb
  rw [View.readAt_full b.view f inb]
  iapply Hk
  iapply (owns_intro (c : Thread nD τ) b fullShare f); iexact Hb

/-- A store over a whole memref. -/
theorem wp_storeAll {cs : CoreSpace} {s : Shape} {b : Memref sig .tc cs s .f32} {off : Fin s.rank → ℕ} {inb : ∀ a, off a + s.size a ≤ s.size a}
    {w : s.Idx → Elt F .f32} {hx : (b.access (Rect.unit off s.size inb)).Stores Finset.univ}
    {hm : (Finset.univ : Finset (Rect.unit off s.size inb).shape.Idx) = Finset.univ ∨ ∀ a, (Rect.unit off s.size inb).stride a = 1}
    {k : PUnit → Prog (TpuEff nD τ sig (Elt F) Λ₀ .tc) α} {Q : α → sProp 𝕄} :
    some' c b
      ⊢ iprop((owns (c : Thread nD τ) b fullShare w -∗ WP c (k ⟨⟩) Q)
          -∗ WP c (.op (.store b (Rect.unit off s.size inb) w Finset.univ hx hm) k) Q) := by
  iintro ⟨%X, Hb⟩ Hk
  ihave Hb' := (show owns (c : Thread nD τ) b fullShare X ⊢ iprop(∃ f, ⌜b.view.read (Elt F) f = X⌝ ∗ b.view.loc (c : Thread nD τ) ↦[b.view.set]{fullShare} f) from .rfl) $$ Hb
  icases Hb' with ⟨%f, -, Hb⟩
  iapply (wp_store 𝒱₀ (c : Thread nD τ) none Set.univ (m := b) (r := Rect.unit off s.size inb) (Mk := Finset.univ)
    (S := b.view.set) (View.set_slice_subset (v := b.view) _)) $$ Hb
  iintro Hb
  iapply Hk
  unfold owns
  iexists _; isplitr [Hb]; swap; · iexact Hb
  ipureintro
  exact View.read_writes_full b.view f inb w []

/-- The load of weight plane `(d, kt)` out of its staging buffer. -/
theorem wp_loadPlane (d kt : Fin 2) {off : Fin 4 → ℕ} (ho : off = ![d.val, kt.val, 0, 0])
    {inb : ∀ a, off a + S1x1x1024x2048.size a ≤ S2x2x1024x2048.size a}
    {hl : wcM.view.LoadsAt (Rect.unit (s := S2x2x1024x2048) off S1x1x1024x2048.size inb).toLoadRect}
    {k : Vec F S1x1x1024x2048 .f32 → Prog (TpuEff nD τ sig (Elt F) Λ₀ .tc) α} {Q : α → sProp 𝕄} (X : Vec F S1024x2048 .f32) :
    owns (c : Thread nD τ) (wSlot d kt) fullShare X
      ⊢ iprop((owns (c : Thread nD τ) (wSlot d kt) fullShare X -∗ WP c (k (unsq X)) Q)
          -∗ WP c (.op (.load wcM (Rect.unit (s := S2x2x1024x2048) off S1x1x1024x2048.size inb).toLoadRect hl) k) Q) := by
  subst ho
  iintro Hb Hk
  ihave Hb' := (show owns (c : Thread nD τ) (wSlot d kt) fullShare X
    ⊢ iprop(∃ f, ⌜(wSlot d kt).view.read (Elt F) f = X⌝ ∗ wcM.view.loc (c : Thread nD τ) ↦[(wSlot d kt).view.set]{fullShare} f) from .rfl) $$ Hb
  icases Hb' with ⟨%f, %hf, Hb⟩
  iapply (wp_load 𝒱₀ (c : Thread nD τ) none Set.univ (m := wcM) (r := (Rect.unit (s := S2x2x1024x2048) ![d.val, kt.val, 0, 0] S1x1x1024x2048.size inb).toLoadRect)
    (S := (wSlot d kt).view.set) (by rw [wSlot_set (d, kt)]; intro i hi; obtain ⟨x, hx, rfl⟩ := Finset.mem_map.mp hi; exact hx)) $$ Hb
  iintro Hb
  have hr : wcM.view.readAt (Elt F) (Rect.unit (s := S2x2x1024x2048) ![d.val, kt.val, 0, 0] S1x1x1024x2048.size inb).toLoadRect f = unsq X := by
    subst hf
    funext j
    unfold unsq
    show _ = (wSlot d kt).view.read (Elt F) f _
    show _ = (wcM.view.slice (Rect.unit (s := S2x2x1024x2048) ![d.val, kt.val, 0, 0] S1x1x1024x2048.size inb)).read (Elt F) f (Shape.reshapeEquiv squeezes_S1x1x1024x2048_S1024x2048.numel_eq _)
    rw [Equiv.apply_symm_apply]; rfl
  rw [hr]
  iapply Hk
  unfold owns
  iexists f; isplitr; · (ipureintro; exact hf)
  iexact Hb

end Cert.TwoRing

end
-- ==== Proof.State.lean ====
/-
What a core holds between trips of its loop, direction by direction, and the two steps that change it: the wait for a block
and the sending of one.
-/
module

public import proofs.«01_k».proof.Proof.Rules

@[expose] public section

noncomputable section

namespace Cert.TwoRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ)

/-! ## The persistent records -/

/-- Every cell's invariant, every cell's round 0, the levels. -/
def ctx : sProp 𝕄 :=
  iprop((bigSep Finset.univ fun ck : Dev nD × CK => cellInv ER (ringRd m) (K ck) (kcell ck))
    ∗ (bigSep Finset.univ fun ck : Dev nD × CK => reached ER (kcell ck) 0) ∗ levAts L lv)

instance ctx_persistent : BI.Persistent (ctx (F := F) m K) := by unfold ctx; infer_instance

theorem inv_of (ck : Dev nD × CK) :
    (bigSep Finset.univ fun ck : Dev nD × CK => (cellInv ER (ringRd m) (K ck) (kcell ck) : sProp 𝕄)) ⊢ cellInv ER (ringRd m) (K ck) (kcell ck) :=
  bigSep_elim (Finset.mem_univ ck)
theorem reached_of (ck : Dev nD × CK) :
    (bigSep Finset.univ fun ck : Dev nD × CK => (reached ER (kcell ck) 0 : sProp 𝕄)) ⊢ reached ER (kcell ck) 0 :=
  bigSep_elim (Finset.mem_univ ck)
theorem ctx_inv (ck : Dev nD × CK) : ctx m K ⊢ cellInv ER (ringRd m) (K ck) (kcell ck) := by
  unfold ctx; iintro ⟨H, -, -⟩
  iapply (inv_of m K ck); iexact H
theorem ctx_reached (ck : Dev nD × CK) : ctx (F := F) m K ⊢ reached ER (kcell ck) 0 := by
  unfold ctx; iintro ⟨-, H, -⟩
  iapply (reached_of (F := F) ck); iexact H
theorem ctx_lev : ctx (F := F) m K ⊢ levAts L lv := by
  unfold ctx; iintro ⟨-, -, H⟩; iexact H

theorem split_at {I : Type} [Fintype I] [DecidableEq I] (a : I) (Φ : I → sProp 𝕄) :
    bigSep Finset.univ Φ = iprop(Φ a ∗ bigSep (Finset.univ.erase a) Φ) := bigSep_univ_split a

/-- A family's member out, and another put in its place. -/
theorem bigSep_swap {I : Type} [Fintype I] [DecidableEq I] (a : I) {Φ Φ' : I → sProp 𝕄} (h : ∀ b, b ≠ a → Φ b = Φ' b) :
    bigSep Finset.univ Φ ⊢ iprop(Φ a ∗ (Φ' a -∗ bigSep Finset.univ Φ')) := by
  rw [split_at a Φ, split_at a Φ',
    bigSep_congr (s := Finset.univ.erase a) (fun b hb => h b (Finset.ne_of_mem_erase hb))]
  iintro ⟨Ha, Hr⟩
  isplitl [Ha]; · iexact Ha
  iintro Ha
  isplitl [Ha] <;> iassumption

/-! ## The state of a direction -/

section Dir
variable (c : Dev nD) (d : Fin 2)

/-- A transfer both of whose waits are done. -/
def stDone (st : Fin 12) : sProp 𝕄 := iprop(atPos ER (kSnd c d st) 1 ∅ 0 ∗ atPos ER (kRcv c d st) 1 ∅ 0)
/-- A transfer sent and not yet waited for. -/
def stSent (st : Fin 12) : sProp 𝕄 :=
  iprop(atPos ER (kSnd c d st) 0 ∅ 0 ∗ atPos ER (kRcv c d st) 0 ∅ 0 ∗ cred (tallyAt (kSnd c d st) () N) ∗ cred (tallyAt (kRcv c d st) () N))
/-- A transfer not yet sent: its duties' tokens and the slot it lands in are still here. -/
def stIdle (st : Fin 12) : sProp 𝕄 :=
  iprop(atPos ER (kSnd c d st) 0 ∅ 0 ∗ atPos ER (kRcv c d st) 0 ∅ 0 ∗ cred (tallyAt (kRcv c d st) () N)
    ∗ dutyTok ER (kSnd c d st) 0 0 ∗ dutyTok ER (kRcv (dest d c) d st) 0 0 ∗ some' (dest d c) (rSlot d st))

/-- Transfer `st`, those below `w` waited for and those below `s` sent. -/
def stAt (w s : ℕ) (st : Fin 12) : sProp 𝕄 :=
  if st.val < w then stDone c d st else if st.val < s then stSent c d st else stIdle c d st

/-- Whether a transfer under way reads send slot `b`. -/
def busy (w s : ℕ) (b : Fin 4) : Prop := ∃ st, w ≤ st ∧ st < s ∧ st % 4 = b.val

instance busy_dec (w s : ℕ) (b : Fin 4) : Decidable (busy w s b) := Classical.propDecidable _

/-- Send slot `b`, here unless a transfer under way reads it. -/
def slotAt (w s : ℕ) (b : Fin 4) : sProp 𝕄 := if busy w s b then iprop(emp) else some' c (sSlot d b)

/-- Direction `d` on core `c`: the twelve transfers and the four send slots. -/
def dirState (w s : ℕ) : sProp 𝕄 := iprop((bigSep Finset.univ (stAt c d w s)) ∗ bigSep Finset.univ (slotAt c d w s))

abbrev mod4 (st : Fin 12) : Fin 4 := ⟨st.val % 4, Nat.mod_lt _ (by decide)⟩

/-- The next transfer to wait for, out; and what the waits leave put in its place. -/
theorem dir_wait (st : Fin 12) (s : ℕ) (h : st.val < s) (h' : s ≤ st.val + 4) :
    dirState (F := F) c d st.val s ⊢ iprop(stSent c d st ∗ ((stDone c d st ∗ some' c (sSlot d (mod4 st))) -∗ dirState c d (st.val + 1) s)) := by
  unfold dirState
  iintro ⟨Hst, Hsl⟩
  ihave Hst' := (bigSep_swap st (Φ := stAt c d st.val s) (Φ' := stAt c d (st.val + 1) s) (fun b hb => by
    have hne : b.val ≠ st.val := fun h => hb (Fin.ext h)
    unfold stAt
    by_cases h1 : b.val < st.val
    · rw [if_pos h1, if_pos (show b.val < st.val + 1 by omega)]
    · rw [if_neg h1, if_neg (show ¬ b.val < st.val + 1 by omega)])) $$ Hst
  ihave Hsl' := (bigSep_swap (mod4 st) (Φ := slotAt c d st.val s) (Φ' := slotAt c d (st.val + 1) s) (fun b hb => by
    have hne : b.val ≠ st.val % 4 := fun h => hb (Fin.ext h)
    unfold slotAt
    refine if_congr ⟨?_, ?_⟩ rfl rfl
    · rintro ⟨j, h1, h2, h3⟩; exact ⟨j, by rcases Nat.eq_or_lt_of_le h1 with rfl | h1; (· exact absurd h3.symm hne); exact h1, h2, h3⟩
    · rintro ⟨j, h1, h2, h3⟩; exact ⟨j, by omega, h2, h3⟩)) $$ Hsl
  rw [show stAt (F := F) c d st.val s st = stSent c d st by unfold stAt; rw [if_neg (Nat.lt_irrefl _), if_pos h],
    show stAt (F := F) c d (st.val + 1) s st = stDone c d st by unfold stAt; rw [if_pos (Nat.lt_succ_self _)],
    show slotAt (F := F) c d (st.val + 1) s (mod4 st) = some' c (sSlot d (mod4 st)) by
      unfold slotAt; rw [if_neg]; rintro ⟨j, h1, h2, h3⟩; change j % 4 = st.val % 4 at h3; omega]
  icases Hst' with ⟨Hs, Hst⟩
  icases Hsl' with ⟨-, Hsl⟩
  isplitl [Hs]; · iexact Hs
  iintro ⟨Hd, Hb⟩
  isplitl [Hst Hd]
  · iapply Hst; iexact Hd
  · iapply Hsl; iexact Hb

/-- The next transfer to send, out with its send slot; and what the sending leaves put in its place. -/
theorem dir_send (w : ℕ) (st : Fin 12) (h : w ≤ st.val) (h' : st.val < w + 4) :
    dirState (F := F) c d w st.val ⊢ iprop((stIdle c d st ∗ some' c (sSlot d (mod4 st))) ∗ (stSent c d st -∗ dirState c d w (st.val + 1))) := by
  unfold dirState
  iintro ⟨Hst, Hsl⟩
  ihave Hst' := (bigSep_swap st (Φ := stAt c d w st.val) (Φ' := stAt c d w (st.val + 1)) (fun b hb => by
    have hne : b.val ≠ st.val := fun h => hb (Fin.ext h)
    unfold stAt
    by_cases h1 : b.val < w
    · rw [if_pos h1, if_pos h1]
    · rw [if_neg h1, if_neg h1]
      by_cases h2 : b.val < st.val
      · rw [if_pos h2, if_pos (show b.val < st.val + 1 by omega)]
      · rw [if_neg h2, if_neg (show ¬ b.val < st.val + 1 by omega)])) $$ Hst
  ihave Hsl' := (bigSep_swap (mod4 st) (Φ := slotAt c d w st.val) (Φ' := slotAt c d w (st.val + 1)) (fun b hb => by
    have hne : b.val ≠ st.val % 4 := fun h => hb (Fin.ext h)
    unfold slotAt
    refine if_congr ⟨?_, ?_⟩ rfl rfl
    · rintro ⟨j, h1, h2, h3⟩; exact ⟨j, h1, by omega, h3⟩
    · rintro ⟨j, h1, h2, h3⟩; exact ⟨j, h1, by rcases Nat.eq_or_lt_of_le (Nat.le_of_lt_succ h2) with rfl | h2; (· exact absurd h3.symm hne); exact h2, h3⟩)) $$ Hsl
  rw [show stAt (F := F) c d w st.val st = stIdle c d st by unfold stAt; rw [if_neg (by omega), if_neg (Nat.lt_irrefl _)],
    show stAt (F := F) c d w (st.val + 1) st = stSent c d st by unfold stAt; rw [if_neg (by omega), if_pos (Nat.lt_succ_self _)],
    show slotAt (F := F) c d w st.val (mod4 st) = some' c (sSlot d (mod4 st)) by
      unfold slotAt; rw [if_neg]; rintro ⟨j, h1, h2, h3⟩; change j % 4 = st.val % 4 at h3; omega,
    show slotAt (F := F) c d w (st.val + 1) (mod4 st) = iprop(emp) by
      unfold slotAt; rw [if_pos]; exact ⟨st.val, h, Nat.lt_succ_self _, rfl⟩]
  icases Hst' with ⟨Hs, Hst⟩
  icases Hsl' with ⟨Hb, Hsl⟩
  isplitl [Hs Hb]
  · isplitl [Hs] <;> iassumption
  iintro Hd
  isplitl [Hst Hd]
  · iapply Hst; iexact Hd
  · iapply Hsl; iempintro

end Dir

end Cert.TwoRing

end
-- ==== Proof.Seg.lean ====
/-
The kernel's two exchanges as rules: waiting for the block that comes along a direction (with its copy to the staging
buffer), and sending the accumulator along it.
-/
module

public import proofs.«01_k».proof.Proof.State

@[expose] public section

noncomputable section

namespace Cert.TwoRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ)
variable {α : Type} (c : Dev nD)

/-- The wait for one block's credit on a send or receive cell: the cell's payload. -/
theorem wp_waitBlk (p : (Fin 2 × Fin 12) ⊕ (Fin 2 × Fin 12)) {q : DmaSem sig} (hq : SemLoc.dma q = csem (.inl p))
    {sp sp' : Space} {s s' : Shape} {src : Memref sig .tc sp s .f32} {dst : Memref sig .tc sp' s' .f32}
    {hsrc : src.view.WordExact} {hdst : dst.view.WordExact} (hcr : dst.view.dmaCredit = N)
    {k : PUnit → Prog (TpuEff nD τ sig (Elt F) Λ₀ .tc) α} {Q : α → sProp 𝕄}
    (O : CellTallies nD τ sig Unit) (hM : (levAts L lv : sProp 𝕄) ⊢ MayWait (c : Thread nD τ) (csem (.inl p)) () O) :
    iprop(ctx m K ∗ cred (tallyAt (kcell (c, .inl p)) () N) ∗ owesE c O ∗ atPos ER (kcell (c, .inl p)) 0 ∅ 0)
      ⊢ iprop(((owesE c O ∗ atPos ER (kcell (c, .inl p)) 1 ∅ 0 ∗ payOf m c 0 (.inl p)) -∗ WP c (k ⟨⟩) Q)
          -∗ WP c (.op (.waitDma2 q src dst hsrc hdst) k) Q) := by
  have hinv := ctx_inv m K (c, .inl p)
  have hexp : (ringRd m).expect (kcell (c, .inl p)) 0 = N := (expect_at m c (.inl p)).trans (Nat.one_mul _)
  have hrest : (bigSep ((ringRd (F := F) m).duties (kcell (c, .inl p)) 0 \ ∅) fun d => (ringRd (F := F) m).payload (kcell (c, .inl p)) 0 d)
      = payOf m c 0 (.inl p) := (rest_at m c (.inl p)).trans bigSep_singleton
  change ctx m K ⊢ cellInv ER (ringRd m) (K (c, .inl p)) ((c : Thread nD τ), csem (.inl p)) at hinv
  change (ringRd m).expect ((c : Thread nD τ), csem (.inl p)) 0 = N at hexp
  change (bigSep ((ringRd (F := F) m).duties ((c : Thread nD τ), csem (.inl p)) 0 \ ∅) fun d => (ringRd (F := F) m).payload ((c : Thread nD τ), csem (.inl p)) 0 d)
      = payOf m c 0 (.inl p) at hrest
  show iprop(ctx m K ∗ cred (tallyAt ((c : Thread nD τ), csem (.inl p)) () N) ∗ owesE c O ∗ atPos ER ((c : Thread nD τ), csem (.inl p)) 0 ∅ 0)
      ⊢ iprop(((owesE c O ∗ atPos ER ((c : Thread nD τ), csem (.inl p)) 1 ∅ 0 ∗ payOf m c 0 (.inl p)) -∗ WP c (k ⟨⟩) Q)
          -∗ WP c (.op (.waitDma2 q src dst hsrc hdst) k) Q)
  rw [← hq] at hM hinv hexp hrest ⊢
  rw [← hcr] at hexp ⊢
  iintro ⟨#Hctx, Hc, ⟨%W, HO⟩, Hat⟩ Hk
  iapply (Rounds.wp_wait_rest_token 𝒱₀ ER (ringRd m) (c : Thread nD τ) none (κ := K (c, .inl p))
      (wpE_waitDma2_eq 𝒱₀ (c : Thread nD τ) none Set.univ) (Set.mem_univ _) () (O := O) (W := W) (R := 0) (m := 0) (T := ∅)
      (by rw [Nat.zero_add, hexp])) $$ [Hc HO Hat]
  · isplitr; · iapply hinv; iexact Hctx
    isplitl [Hc]; · iexact Hc
    isplitl [HO]; · iexact HO
    isplitr; · iapply hM; iapply (ctx_lev m K); iexact Hctx
    iexact Hat
  iintro ⟨HO, Hat, -, Hpay⟩
  iapply Hk
  isplitl [HO]; · iexists _; iexact HO
  isplitl [Hat]; · iexact Hat
  iapply (Entails.of_eq hrest); iexact Hpay

section Dir
variable (d : Fin 2)

/-- The wait for transfer `st` and for the block that comes with it, and the block's copy to the staging buffer. -/
theorem seg_wait (st : Fin 12) (s s0 s1 : ℕ) (h : st.val < s) (h' : s ≤ st.val + 4) (h0 : st.val < s0) (h1 : st.val < s1)
    {o3 : Fin 2 → ℕ} (e3 : o3 = ![d.val, st.val]) {i3 i3' : ∀ a, o3 a + S1x1.size a ≤ S2x12.size a}
    {o4 : Fin 4 → ℕ} (e4 : o4 = ![d.val, st.val % 4, 0, 0]) {i4 i4' : ∀ a, o4 a + S1x1x512x2048.size a ≤ S2x4x512x2048.size a}
    {o5 : Fin 4 → ℕ} (e5 : o5 = ![d.val, st.val, 0, 0]) {i5 i5' i5'' : ∀ a, o5 a + S1x1x512x2048.size a ≤ S2x12x512x2048.size a}
    {x1 x3 x5 x7} {x2 x4 x6 x8} {x9} {k : PUnit → Prog (TpuEff nD τ sig (Elt F) Λ₀ .tc) α} {Q : α → sProp 𝕄} :
    iprop(ctx m K ∗ dirState c d st.val s ∗ some' c stM ∗ locZ c ∗ owesE c (Ow c s0 s1))
      ⊢ iprop(((dirState c d (st.val + 1) s ∗ owns (c : Thread nD τ) stM fullShare (sent m d (sour d c) st.val) ∗ locZ c ∗ owesE c (Ow c s0 s1))
            -∗ WP c (k ⟨⟩) Q)
          -∗ WP c (.op (.waitDma2 ((cc0_scratch5.slice (Rect.unit (s := S2x12) o3 S1x1.size i3)).squeeze S_ squeezes_S1x1_S_).sem
                ((rM.slice (Rect.unit (s := S2x12x512x2048) o5 S1x1x512x2048.size i5) (fun _ => rfl)).squeeze S512x2048 squeezes_S1x1x512x2048_S512x2048)
                ((sM.slice (Rect.unit (s := S2x4x512x2048) o4 S1x1x512x2048.size i4) (fun _ => rfl)).squeeze S512x2048 squeezes_S1x1x512x2048_S512x2048) x1 x2)
              fun _ => .op (.waitDma2 ((cc0_scratch6.slice (Rect.unit (s := S2x12) o3 S1x1.size i3')).squeeze S_ squeezes_S1x1_S_).sem
                ((sM.slice (Rect.unit (s := S2x4x512x2048) o4 S1x1x512x2048.size i4') (fun _ => rfl)).squeeze S512x2048 squeezes_S1x1x512x2048_S512x2048)
                ((rM.slice (Rect.unit (s := S2x12x512x2048) o5 S1x1x512x2048.size i5') (fun _ => rfl)).squeeze S512x2048 squeezes_S1x1x512x2048_S512x2048) x3 x4)
              fun _ => .op (.enqueueDma
                ((rM.slice (Rect.unit (s := S2x12x512x2048) o5 S1x1x512x2048.size i5'') (fun _ => rfl)).squeeze S512x2048 squeezes_S1x1x512x2048_S512x2048)
                (.here stM) (.dma locS) x5 x6 x9)
              fun _ => .op (.waitDma2 locS
                ((rM.slice (Rect.unit (s := S2x12x512x2048) o5 S1x1x512x2048.size i5'') (fun _ => rfl)).squeeze S512x2048 squeezes_S1x1x512x2048_S512x2048)
                stM x7 x8) k) Q) := by
  subst e3 e4 e5
  iintro ⟨#Hctx, Hdir, Hst, Hz, HO⟩ Hk
  ihave Hd := (dir_wait c d st s h h') $$ Hdir
  icases Hd with ⟨Hs, Hdir⟩
  unfold stSent
  icases Hs with ⟨HaS, HaR, HcS, HcR⟩
  iapply (wp_waitBlk m K c (.inl (d, st)) (congrArg SemLoc.dma (sendS_eq d st)) (credit_s d (mod4 st)) (Ow c s0 s1) (mayWait_snd c d st s0 s1)) $$ [HcS HO HaS]
  · isplitr; · iexact Hctx
    isplitl [HcS]; · iexact HcS
    isplitl [HO]; · iexact HO
    iexact HaS
  iintro ⟨HO, HaS, Hsl⟩
  iapply (wp_waitBlk m K c (.inr (d, st)) (congrArg SemLoc.dma (recvS_eq d st)) (credit_r d st) (Ow c s0 s1) (mayWait_rcv c d st s0 s1 h0 h1)) $$ [HcR HO HaR]
  · isplitr; · iexact Hctx
    isplitl [HcR]; · iexact HcR
    isplitl [HO]; · iexact HO
    iexact HaR
  iintro ⟨HO, HaR, Hblk⟩
  iapply (wp_copy c (by decide) (sent m d (sour d c) st.val) s0 s1) $$ [Hblk Hst Hz HO]
  · isplitr; · iapply (ctx_lev m K); iexact Hctx
    isplitl [Hblk]
    · iapply (show payOf m c 0 (.inl (.inr (d, st))) ⊢ owns (c : Thread nD τ) (rSlot d st) fullShare (sent m d (sour d c) st.val) from .rfl); iexact Hblk
    isplitl [Hst]; · iexact Hst
    isplitl [Hz]; · iexact Hz
    iexact HO
  iintro ⟨-, Hst, Hz, HO⟩
  iapply Hk
  isplitl [Hdir HaS HaR Hsl]
  · iapply Hdir
    isplitl [HaS HaR]
    · unfold stDone
      isplitl [HaS]; · iexact HaS
      iexact HaR
    · iapply (show payOf m c 0 (.inl (.inl (d, st))) ⊢ some' c (sSlot d (mod4 st)) from .rfl); iexact Hsl
  isplitl [Hst]; · iexact Hst
  isplitl [Hz]; · iexact Hz
  iexact HO

/-- The sending of transfer `st`: the accumulator to its send slot, the slot to the device along the direction. -/
theorem seg_send (st : Fin 12) (w s0 s1 t0 t1 : ℕ) (h : w ≤ st.val) (h' : st.val < w + 4)
    (hO : Ow c s0 s1 = Ow c t0 t1 + tallyAt (kRcv (dest d c) d st) () N)
    {o7 : Fin 4 → ℕ} (e7 : o7 = ![d.val, st.val % 4, 0, 0]) {i7 i7' : ∀ a, o7 a + S1x1x512x2048.size a ≤ S2x4x512x2048.size a}
    {o8 : Fin 2 → ℕ} (e8 : o8 = ![d.val, st.val]) {i8 i8' : ∀ a, o8 a + S1x1.size a ≤ S2x12.size a}
    {o9 : Fin 4 → ℕ} (e9 : o9 = ![d.val, st.val, 0, 0]) {i9 : ∀ a, o9 a + S1x1x512x2048.size a ≤ S2x12x512x2048.size a}
    {n : Dev nD} (hn : n = dest d c) (b : Memref sig .tc .vmem S512x2048 .f32) {hsc}
    {x1 x3 x5} {x2 x4 x6} {x7 x8} {k : PUnit → Prog (TpuEff nD τ sig (Elt F) Λ₀ .tc) α} {Q : α → sProp 𝕄} :
    iprop(ctx m K ∗ dirState c d w st.val ∗ owns (c : Thread nD τ) b fullShare (sent m d c st.val) ∗ locZ c ∗ owesE c (Ow c s0 s1))
      ⊢ iprop(((dirState c d w (st.val + 1) ∗ some' c b ∗ locZ c ∗ owesE c (Ow c t0 t1)) -∗ WP c (k ⟨⟩) Q)
          -∗ WP c (.op (.enqueueDma b
                (.here ((sM.slice (Rect.unit (s := S2x4x512x2048) o7 S1x1x512x2048.size i7) (fun _ => rfl)).squeeze S512x2048 squeezes_S1x1x512x2048_S512x2048))
                (.dma locS) x1 x2 x7)
              fun _ => .op (.waitDma2 locS b
                ((sM.slice (Rect.unit (s := S2x4x512x2048) o7 S1x1x512x2048.size i7) (fun _ => rfl)).squeeze S512x2048 squeezes_S1x1x512x2048_S512x2048) x3 x4)
              fun _ => .op (.enqueueDma
                ((sM.slice (Rect.unit (s := S2x4x512x2048) o7 S1x1x512x2048.size i7') (fun _ => rfl)).squeeze S512x2048 squeezes_S1x1x512x2048_S512x2048)
                (.remote (Dev.tc n : Thread nD τ)
                  ((rM.slice (Rect.unit (s := S2x12x512x2048) o9 S1x1x512x2048.size i9) (fun _ => rfl)).squeeze S512x2048 squeezes_S1x1x512x2048_S512x2048)
                  (.dma ((cc0_scratch5.slice (Rect.unit (s := S2x12) o8 S1x1.size i8)).squeeze S_ squeezes_S1x1_S_).sem) hsc)
                (.dma ((cc0_scratch6.slice (Rect.unit (s := S2x12) o8 S1x1.size i8')).squeeze S_ squeezes_S1x1_S_).sem) x5 x6 x8) k) Q) := by
  subst e7 e8 e9 hn
  iintro ⟨#Hctx, Hdir, Hb, Hz, HO⟩ Hk
  ihave Hd := (dir_send c d w st h h') $$ Hdir
  icases Hd with ⟨⟨Hs, Hsl⟩, Hdir⟩
  unfold stIdle
  icases Hs with ⟨HaS, HaR, HcR, HtS, HtR, ⟨%Y, Hdst⟩⟩
  iapply (wp_copy c (by decide) (sent m d c st.val) s0 s1) $$ [Hb Hsl Hz HO]
  · isplitr; · iapply (ctx_lev m K); iexact Hctx
    isplitl [Hb]; · iexact Hb
    isplitl [Hsl]; · iexact Hsl
    isplitl [Hz]; · iexact Hz
    iexact HO
  iintro ⟨Hb, Hsl, Hz, ⟨%W, HO⟩⟩
  ihave Hsl' := (show owns (c : Thread nD τ) (sSlot d (mod4 st)) fullShare (sent m d c st.val)
    ⊢ iprop(∃ f, ⌜(sSlot d (mod4 st)).view.read (Elt F) f = sent m d c st.val⌝ ∗ (sSlot d (mod4 st)).view.loc (c : Thread nD τ) ↦[(sSlot d (mod4 st)).view.set]{fullShare} f) from .rfl) $$ Hsl
  icases Hsl' with ⟨%f, %hf, Hsl⟩
  ihave Hdst' := (show owns (dest d c : Thread nD τ) (rSlot d st) fullShare Y
    ⊢ iprop(∃ f, ⌜(rSlot d st).view.read (Elt F) f = Y⌝ ∗ (rSlot d st).view.loc (dest d c : Thread nD τ) ↦[(rSlot d st).view.set]{fullShare} f) from .rfl) $$ Hdst
  icases Hdst' with ⟨%g, -, Hdst⟩
  have eS : SemLoc.dma ((cc0_scratch5.slice (Rect.unit (s := S2x12) ![d.val, st.val] S1x1.size i8)).squeeze S_ squeezes_S1x1_S_).sem = csem (.inl (.inl (d, st))) :=
    congrArg SemLoc.dma (sendS_eq d st)
  have eR : SemLoc.dma ((cc0_scratch6.slice (Rect.unit (s := S2x12) ![d.val, st.val] S1x1.size i8')).squeeze S_ squeezes_S1x1_S_).sem = csem (.inl (.inr (d, st))) :=
    congrArg SemLoc.dma (recvS_eq d st)
  iapply (Rounds.wp_send_pointsTo 𝒱₀ ER (ringRd m) (c : Thread nD τ) none (κ₁ := K (c, .inl (.inl (d, st)))) (κ₂ := K (dest d c, .inl (.inr (d, st))))
      (r₁ := 0) (r₂ := 0) (d₁ := 0) (d₂ := 0) (q := fullShare) (fs := f) (fd := g) (O₀ := Ow c s0 s1)
      (by rw [eS]; exact (duties_at m c (.inl (.inl (d, st)))).symm ▸ Finset.mem_singleton_self _)
      (by rw [eR]; exact (duties_at m (dest d c) (.inl (.inr (d, st)))).symm ▸ Finset.mem_singleton_self _)
      () () N (by rw [eR]; exact credit_r d st)
      (by rw [eS]; exact amount_at m c (.inl (.inl (d, st))) 0)
      (by rw [eR]; exact amount_at m (dest d c) (.inl (.inr (d, st))) 0)
      (Ow c t0 t1) (by rw [eR]; exact hO) (W := W)
      (by
        rw [eS]
        refine BIBase.Entails.trans ?_ (Entails.of_eq (payload_at m c (.inl (.inl (d, st))) 0).symm)
        show _ ⊢ some' c (sSlot d (mod4 st))
        iintro H; iexists _
        iapply (owns_intro (c : Thread nD τ) (sSlot d (mod4 st)) fullShare f); iexact H)
      (by
        rw [eR]
        refine BIBase.Entails.trans ?_ (Entails.of_eq (payload_at m (dest d c) (.inl (.inr (d, st))) 0).symm)
        show _ ⊢ owns (dest d c : Thread nD τ) (rSlot d st) fullShare (sent m d (sour d (dest d c)) st.val)
        rw [sour_dest, ← hf]
        unfold owns
        iintro H; iexists _
        isplitr [H]; swap; · iexact H
        ipureintro
        exact View.read_write_univ _ _)) $$ [Hsl Hdst HO HtS HtR]
  · rw [eS, eR]
    isplitr; · iapply (ctx_inv m K (c, .inl (.inl (d, st)))); iexact Hctx
    isplitr; · iapply (ctx_inv m K (dest d c, .inl (.inr (d, st)))); iexact Hctx
    isplitl [Hsl]; · iexact Hsl
    isplitl [Hdst]; · iexact Hdst
    isplitl [HO]; · iexact HO
    isplitl [HtS]; · iexact HtS
    isplitr; · iapply (ctx_reached m K (c, .inl (.inl (d, st)))); iexact Hctx
    isplitl [HtR]; · iexact HtR
    iapply (ctx_reached m K (dest d c, .inl (.inr (d, st)))); iexact Hctx
  rw [eS]
  iintro ⟨HcS, HO⟩
  iapply Hk
  isplitl [Hdir HaS HaR HcR HcS]
  · iapply Hdir
    unfold stSent
    isplitl [HaS]; · iexact HaS
    isplitl [HaR]; · iexact HaR
    isplitl [HcS]; · iexact HcS
    iexact HcR
  isplitl [Hb]; · iexists _; iexact Hb
  isplitl [Hz]; · iexact Hz
  iexists _; iexact HO

end Dir

end Cert.TwoRing

end
-- ==== Proof.Blocks.lean ====
/-
The pieces of one trip of the kernel's loop, each as a rule whose second premise is the rest of the trip: the partial
product, and the five conditional pieces.
-/
module

public import proofs.«01_k».proof.Proof.Seg

@[expose] public section

noncomputable section

namespace Cert.TwoRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ)
variable {α : Type} (c : Dev nD) (d : Fin 2)

/-- The argument `x`, whole, at its launch contents. -/
abbrev xPts : sProp 𝕄 := iprop(((c : Thread nD τ).loc main_arg0) ↦{fullShare} m ((c : Thread nD τ).loc main_arg0))
/-- The argument `w_mat`, whole, at its launch contents. -/
abbrev wPts : sProp 𝕄 := iprop(((c : Thread nD τ).loc main_arg1) ↦{fullShare} m ((c : Thread nD τ).loc main_arg1))

/-- The staging buffer after the wait of trip `i`: the block that came, if one did. -/
def stage (i : ℕ) : sProp 𝕄 := if 4 ≤ i then owns (c : Thread nD τ) stM fullShare (sent m d (sour d c) (i - 4)) else some' c stM
theorem stage_drop (i : ℕ) : stage m c d i ⊢ some' c stM := by
  unfold stage
  by_cases h : 4 ≤ i
  · rw [if_pos h]; iintro H; iexists _; iexact H
  · rw [if_neg h]
/-- The result's block `(d, b)` before trip `i`. -/
def outAt (i : ℕ) (b : Fin 4) : sProp 𝕄 := if 12 + b.val < i then owns (c : Thread nD τ) (oSlot d b) fullShare (final m d c b) else some' c (oSlot d b)
/-- Direction `d`'s blocks of the result before trip `i`. -/
def outs (i : ℕ) : sProp 𝕄 := bigSep Finset.univ (outAt m c d i)
/-- What trip `i` holds in the accumulator once the block that came is added. -/
def comp (i : ℕ) : Blk F := if i < 12 then sent m d c i else part m d c i
/-- The accumulator once the last step's blocks are written out. -/
def ready (b : Memref sig .tc .vmem S512x2048 .f32) (i : ℕ) : sProp 𝕄 :=
  if i < 12 then owns (c : Thread nD τ) b fullShare (sent m d c i) else some' c b
/-- Both planes of direction `d`'s weights staged. -/
abbrev planes : sProp 𝕄 := iprop(owns (c : Thread nD τ) (wSlot d 0) fullShare (wt m d c 0) ∗ owns (c : Thread nD τ) (wSlot d 1) fullShare (wt m d c 1))
/-- Direction 1's planes before trip `i`. -/
def planesAt (i : ℕ) : sProp 𝕄 := if 1 ≤ i then planes m c 1 else iprop(some' c (wSlot 1 0) ∗ some' c (wSlot 1 1))

section Part

/-- The partial product of trip `i` in direction `d`. -/
theorem seg_part (i s0 s1 : ℕ) (b : Memref sig .tc .vmem S512x2048 .f32)
    {oA oB : Fin 2 → ℕ} (eA : oA = ![xRow d c i, 1024 * (0 : Fin 2).val]) (eB : oB = ![xRow d c i, 1024 * (1 : Fin 2).val])
    {iA : ∀ a, oA a + S512x1024.size a ≤ S8192x2048.size a} {iB : ∀ a, oB a + S512x1024.size a ≤ S8192x2048.size a}
    {oC oD : Fin 4 → ℕ} (eC : oC = ![d.val, (0 : Fin 2).val, 0, 0]) (eD : oD = ![d.val, (1 : Fin 2).val, 0, 0])
    {iC : ∀ a, oC a + S1x1x1024x2048.size a ≤ S2x2x1024x2048.size a} {iD : ∀ a, oD a + S1x1x1024x2048.size a ≤ S2x2x1024x2048.size a}
    {o2 o4 : Fin 2 → ℕ} {i2 : ∀ a, o2 a + S512x1024.size a ≤ S512x1024.size a} {i4 : ∀ a, o4 a + S512x2048.size a ≤ S512x2048.size a}
    {x1 x2 x3 x4 x5 x6 x7 x8 x9 x10 x11 x12 x13 x14 x15 x16 x17 x18 x19 x20 x21} {k : PUnit → Prog (TpuEff nD τ sig (Elt F) Λ₀ .tc) α} {Q : α → sProp 𝕄} :
    iprop(levAts L lv ∗ xPts m c ∗ some' c xtM ∗ planes m c d ∗ some' c b ∗ locZ c ∗ owesE c (Ow c s0 s1))
      ⊢ iprop(((xPts m c ∗ some' c xtM ∗ planes m c d ∗ owns (c : Thread nD τ) b fullShare (part m d c i) ∗ locZ c ∗ owesE c (Ow c s0 s1))
            -∗ WP c (k ⟨⟩) Q)
          -∗ WP c (.op (.enqueueDma (xM.slice (Rect.unit (s := S8192x2048) oA S512x1024.size iA) (fun _ => rfl)) (.here xtM) (.dma locS) x1 x2 x3)
              fun _ => .op (.waitDma2 locS (xM.slice (Rect.unit (s := S8192x2048) oA S512x1024.size iA) (fun _ => rfl)) xtM x4 x5)
              fun _ => .op (.load xtM (Rect.unit (s := S512x1024) o2 S512x1024.size i2).toLoadRect x6)
              fun v80 => .op (.load wcM (Rect.unit (s := S2x2x1024x2048) oC S1x1x1024x2048.size iC).toLoadRect x7)
              fun v81 => .op (.load b (Rect.unit (s := S512x2048) o4 S512x2048.size i4).toLoadRect x8)
              fun _ => .op (.store b (Rect.unit (s := S512x2048) o4 S512x2048.size i4) (k0_pay1 v80 v81) Finset.univ x9 x10)
              fun _ => .op (.enqueueDma (xM.slice (Rect.unit (s := S8192x2048) oB S512x1024.size iB) (fun _ => rfl)) (.here xtM) (.dma locS) x11 x12 x13)
              fun _ => .op (.waitDma2 locS (xM.slice (Rect.unit (s := S8192x2048) oB S512x1024.size iB) (fun _ => rfl)) xtM x14 x15)
              fun _ => .op (.load xtM (Rect.unit (s := S512x1024) o2 S512x1024.size i2).toLoadRect x16)
              fun v89 => .op (.load wcM (Rect.unit (s := S2x2x1024x2048) oD S1x1x1024x2048.size iD).toLoadRect x17)
              fun v90 => .op (.load b (Rect.unit (s := S512x2048) o4 S512x2048.size i4).toLoadRect x18)
              fun v93 => .op (.load b (Rect.unit (s := S512x2048) o4 S512x2048.size i4).toLoadRect x19)
              fun _ => .op (.store b (Rect.unit (s := S512x2048) o4 S512x2048.size i4) (k0_pay2 v89 v90 v93) Finset.univ x20 x21) k) Q) := by
  subst eA eB eC eD
  iintro ⟨#Hlev, Hx, Hxt, ⟨Hw0, Hw1⟩, ⟨%Y, Hb⟩, Hz, HO⟩ Hk
  iapply (wp_copyIn c (dst := xtM) (by decide) (Finset.subset_univ _) (m ((c : Thread nD τ).loc main_arg0)) s0 s1) $$ [Hx Hxt Hz HO]
  · isplitr; · iexact Hlev
    isplitl [Hx]; · iexact Hx
    isplitl [Hxt]; · iexact Hxt
    isplitl [Hz]; · iexact Hz
    iexact HO
  iintro ⟨Hx, Hxt, Hz, HO⟩
  iapply (wp_loadAll c (xt m d c i 0)) $$ [Hxt]; · iexact Hxt
  iintro Hxt
  iapply (wp_loadPlane c d 0 rfl (wt m d c 0)) $$ Hw0; iintro Hw0
  iapply (wp_loadAll c Y) $$ [Hb]; · iexact Hb
  iintro Hb
  iapply (wp_storeAll c (b := b)) $$ [Hb]; · iexists _; iexact Hb
  iintro Hb
  iapply (wp_copyIn c (dst := xtM) (by decide) (Finset.subset_univ _) (m ((c : Thread nD τ).loc main_arg0)) s0 s1) $$ [Hx Hxt Hz HO]
  · isplitr; · iexact Hlev
    isplitl [Hx]; · iexact Hx
    isplitl [Hxt]; · iexists _; iexact Hxt
    isplitl [Hz]; · iexact Hz
    iexact HO
  iintro ⟨Hx, Hxt, Hz, HO⟩
  iapply (wp_loadAll c (xt m d c i 1)) $$ [Hxt]; · iexact Hxt
  iintro Hxt
  iapply (wp_loadPlane c d 1 rfl (wt m d c 1)) $$ Hw1; iintro Hw1
  iapply (wp_loadAll c _) $$ [Hb]; · iexact Hb
  iintro Hb
  iapply (wp_loadAll c _) $$ [Hb]; · iexact Hb
  iintro Hb
  iapply (wp_storeAll c (b := b)) $$ [Hb]; · iexists _; iexact Hb
  iintro Hb
  iapply Hk
  isplitl [Hx]; · iexact Hx
  isplitl [Hxt]; · iexists _; iexact Hxt
  isplitl [Hw0 Hw1]; · isplitl [Hw0] <;> iassumption
  isplitl [Hb]; · iexact Hb
  isplitl [Hz]; · iexact Hz
  iexact HO

end Part

section Cond

variable (i : ℕ) (hi : i < 16) {cond : BitVec 1}

theorem one_ne : ¬ (0#1 = 1#1) := by decide

/-- From trip 4 on: the wait for the block that comes. -/
theorem blk_wait (s0 s1 : ℕ) (hi : i < 16) (h0 : 4 ≤ i → i - 4 < s0) (h1 : 4 ≤ i → i - 4 < s1) (hc : cond = if 4 ≤ i then 1#1 else 0#1)
    {o3 : Fin 2 → ℕ} (e3 : 4 ≤ i → o3 = ![d.val, i - 4]) {i3 i3' : cond = 1#1 → ∀ a, o3 a + S1x1.size a ≤ S2x12.size a}
    {o4 : Fin 4 → ℕ} (e4 : 4 ≤ i → o4 = ![d.val, i % 4, 0, 0]) {i4 i4' : cond = 1#1 → ∀ a, o4 a + S1x1x512x2048.size a ≤ S2x4x512x2048.size a}
    {o5 : Fin 4 → ℕ} (e5 : 4 ≤ i → o5 = ![d.val, i - 4, 0, 0]) {i5 i5' i5'' : cond = 1#1 → ∀ a, o5 a + S1x1x512x2048.size a ≤ S2x12x512x2048.size a}
    {x1 : ∀ h : cond = 1#1, _} {x2 : ∀ h : cond = 1#1, _} {x3 : ∀ h : cond = 1#1, _} {x4 : ∀ h : cond = 1#1, _} {x5 : ∀ h : cond = 1#1, _} {x6 : ∀ h : cond = 1#1, _} {x7 : ∀ h : cond = 1#1, _} {x8 : ∀ h : cond = 1#1, _} {x9 : ∀ h : cond = 1#1, _} {k : Prog (TpuEff nD τ sig (Elt F) Λ₀ .tc) α} {Q : α → sProp 𝕄} :
    iprop(ctx m K ∗ dirState c d (i - 4) (min i 12) ∗ some' c stM ∗ locZ c ∗ owesE c (Ow c s0 s1))
      ⊢ iprop(((dirState c d (i + 1 - 4) (min i 12) ∗ stage m c d i ∗ locZ c ∗ owesE c (Ow c s0 s1)) -∗ WP c k Q)
          -∗ WP c (if h : cond = 1#1 then
              .op (.waitDma2 ((cc0_scratch5.slice (Rect.unit (s := S2x12) o3 S1x1.size (i3 h))).squeeze S_ squeezes_S1x1_S_).sem
                ((rM.slice (Rect.unit (s := S2x12x512x2048) o5 S1x1x512x2048.size (i5 h)) (fun _ => rfl)).squeeze S512x2048 squeezes_S1x1x512x2048_S512x2048)
                ((sM.slice (Rect.unit (s := S2x4x512x2048) o4 S1x1x512x2048.size (i4 h)) (fun _ => rfl)).squeeze S512x2048 squeezes_S1x1x512x2048_S512x2048) (x1 h) (x2 h))
              fun _ => .op (.waitDma2 ((cc0_scratch6.slice (Rect.unit (s := S2x12) o3 S1x1.size (i3' h))).squeeze S_ squeezes_S1x1_S_).sem
                ((sM.slice (Rect.unit (s := S2x4x512x2048) o4 S1x1x512x2048.size (i4' h)) (fun _ => rfl)).squeeze S512x2048 squeezes_S1x1x512x2048_S512x2048)
                ((rM.slice (Rect.unit (s := S2x12x512x2048) o5 S1x1x512x2048.size (i5' h)) (fun _ => rfl)).squeeze S512x2048 squeezes_S1x1x512x2048_S512x2048) (x3 h) (x4 h))
              fun _ => .op (.enqueueDma
                ((rM.slice (Rect.unit (s := S2x12x512x2048) o5 S1x1x512x2048.size (i5'' h)) (fun _ => rfl)).squeeze S512x2048 squeezes_S1x1x512x2048_S512x2048)
                (.here stM) (.dma locS) (x5 h) (x6 h) (x9 h))
              fun _ => .op (.waitDma2 locS
                ((rM.slice (Rect.unit (s := S2x12x512x2048) o5 S1x1x512x2048.size (i5'' h)) (fun _ => rfl)).squeeze S512x2048 squeezes_S1x1x512x2048_S512x2048)
                stM (x7 h) (x8 h)) fun _ => k
              else k) Q) := by
  by_cases h : 4 ≤ i
  · rw [if_pos h] at hc
    rw [dif_pos hc]
    iintro ⟨#Hctx, Hdir, Hst, Hz, HO⟩ Hk
    obtain ⟨j, rfl⟩ : ∃ j, i = j + 4 := ⟨i - 4, by omega⟩
    simp only [Nat.add_sub_cancel] at *
    iapply (seg_wait m K c d ⟨j, by omega⟩ (min (j + 4) 12) s0 s1 (show j < _ by omega) (show _ ≤ j + 4 by omega) (h0 h) (h1 h)
      (e3 h) ((e4 h).trans (by rw [Nat.add_mod_right])) (e5 h)) $$ [Hdir Hst Hz HO]
    · isplitr; · iexact Hctx
      isplitl [Hdir]; · iexact Hdir
      isplitl [Hst]; · iexact Hst
      isplitl [Hz]; · iexact Hz
      iexact HO
    iintro ⟨Hdir, Hst, Hz, HO⟩
    iapply Hk
    isplitl [Hdir]; · rw [show j + 4 + 1 - 4 = j + 1 by omega]; iexact Hdir
    isplitl [Hst]; · unfold stage; rw [if_pos h]; iexact Hst
    isplitl [Hz]; · iexact Hz
    iexact HO
  · rw [if_neg h] at hc
    rw [dif_neg (hc ▸ one_ne)]
    iintro ⟨#Hctx, Hdir, Hst, Hz, HO⟩ Hk
    iapply Hk
    isplitl [Hdir]; · rw [show i + 1 - 4 = i - 4 by omega]; iexact Hdir
    isplitl [Hst]; · unfold stage; rw [if_neg h]; iexact Hst
    isplitl [Hz]; · iexact Hz
    iexact HO

/-- In the middle steps: the block that came is added. -/
theorem blk_add (b : Memref sig .tc .vmem S512x2048 .f32) (hc : cond = if 4 ≤ i ∧ i < 12 then 1#1 else 0#1)
    {o4 : Fin 2 → ℕ} {i4 : ∀ a, o4 a + S512x2048.size a ≤ S512x2048.size a}
    {x1 : ∀ h : cond = 1#1, _} {x2 : ∀ h : cond = 1#1, _} {x3 : ∀ h : cond = 1#1, _} {x4 : ∀ h : cond = 1#1, _} {x5 : ∀ h : cond = 1#1, _} {k : Prog (TpuEff nD τ sig (Elt F) Λ₀ .tc) α} {Q : α → sProp 𝕄} :
    iprop(owns (c : Thread nD τ) b fullShare (part m d c i) ∗ stage m c d i)
      ⊢ iprop(((owns (c : Thread nD τ) b fullShare (comp m c d i) ∗ stage m c d i) -∗ WP c k Q)
          -∗ WP c (if h : cond = 1#1 then
              .op (.load b (Rect.unit (s := S512x2048) o4 S512x2048.size i4).toLoadRect (x1 h))
              fun v168 => .op (.load stM (Rect.unit (s := S512x2048) o4 S512x2048.size i4).toLoadRect (x2 h))
              fun v169 => .op (.load b (Rect.unit (s := S512x2048) o4 S512x2048.size i4).toLoadRect (x3 h))
              fun _ => .op (.store b (Rect.unit (s := S512x2048) o4 S512x2048.size i4) (k0_pay3 v168 v169) Finset.univ (x4 h) (x5 h)) fun _ => k
              else k) Q) := by
  by_cases h : 4 ≤ i ∧ i < 12
  · rw [if_pos h] at hc
    rw [dif_pos hc]
    unfold stage comp
    rw [if_pos h.1, if_pos h.2, sent_late m d c i h.1]
    iintro ⟨Hb, Hst⟩ Hk
    iapply (wp_loadAll c _) $$ [Hb]; · iexact Hb
    iintro Hb
    iapply (wp_loadAll c _) $$ [Hst]; · iexact Hst
    iintro Hst
    iapply (wp_loadAll c _) $$ [Hb]; · iexact Hb
    iintro Hb
    iapply (wp_storeAll c (b := b)) $$ [Hb]; · iexists _; iexact Hb
    iintro Hb
    iapply Hk
    isplitl [Hb] <;> iassumption
  · rw [if_neg h] at hc
    rw [dif_neg (hc ▸ one_ne)]
    have hcomp : comp m c d i = part m d c i := by
      unfold comp
      by_cases h' : i < 12
      · rw [if_pos h', sent_early m d c i (by omega)]
      · rw [if_neg h']
    rw [hcomp]
    iintro ⟨Hb, Hst⟩ Hk
    iapply Hk
    isplitl [Hb] <;> iassumption

/-- In the last step: the sum's positive part, and its copy to the result. -/
theorem blk_out (s0 s1 : ℕ) (b : Memref sig .tc .vmem S512x2048 .f32) (hi : i < 16) (hc : cond = if 12 ≤ i then 1#1 else 0#1)
    {o6 : Fin 2 → ℕ} (e6 : 12 ≤ i → o6 = ![512 * (i % 4), 2048 * d.val]) {i6 : cond = 1#1 → ∀ a, o6 a + S512x2048.size a ≤ S2048x4096.size a}
    {o4 : Fin 2 → ℕ} {i4 : ∀ a, o4 a + S512x2048.size a ≤ S512x2048.size a}
    {x1 : ∀ h : cond = 1#1, _} {x2 : ∀ h : cond = 1#1, _} {x3 : ∀ h : cond = 1#1, _} {x4 : ∀ h : cond = 1#1, _} {x5 : ∀ h : cond = 1#1, _} {x6 : ∀ h : cond = 1#1, _} {x7 : ∀ h : cond = 1#1, _} {x8 : ∀ h : cond = 1#1, _} {x9 : ∀ h : cond = 1#1, _} {x10 : ∀ h : cond = 1#1, _} {k : Prog (TpuEff nD τ sig (Elt F) Λ₀ .tc) α} {Q : α → sProp 𝕄} :
    iprop(levAts L lv ∗ owns (c : Thread nD τ) b fullShare (comp m c d i) ∗ stage m c d i ∗ outs m c d i ∗ locZ c ∗ owesE c (Ow c s0 s1))
      ⊢ iprop(((ready m c d b i ∗ some' c stM ∗ outs m c d (i + 1) ∗ locZ c ∗ owesE c (Ow c s0 s1)) -∗ WP c k Q)
          -∗ WP c (if h : cond = 1#1 then
              .op (.load b (Rect.unit (s := S512x2048) o4 S512x2048.size i4).toLoadRect (x1 h))
              fun v168 => .op (.load stM (Rect.unit (s := S512x2048) o4 S512x2048.size i4).toLoadRect (x2 h))
              fun v169 => .op (.load b (Rect.unit (s := S512x2048) o4 S512x2048.size i4).toLoadRect (x3 h))
              fun _ => .op (.store b (Rect.unit (s := S512x2048) o4 S512x2048.size i4) (k0_pay4 v168 v169) Finset.univ (x4 h) (x5 h))
              fun _ => .op (.enqueueDma b (.here (oM.slice (Rect.unit (s := S2048x4096) o6 S512x2048.size (i6 h)) (fun _ => rfl))) (.dma locS) (x6 h) (x7 h) (x8 h))
              fun _ => .op (.waitDma2 locS b (oM.slice (Rect.unit (s := S2048x4096) o6 S512x2048.size (i6 h)) (fun _ => rfl)) (x9 h) (x10 h)) fun _ => k
              else k) Q) := by
  by_cases h : 12 ≤ i
  · rw [if_pos h] at hc
    rw [dif_pos hc]
    obtain ⟨j, rfl⟩ : ∃ j, i = 12 + j := ⟨i - 12, by omega⟩
    have hj : j < 4 := by omega
    have e6' := (e6 h).trans (by rw [show (12 + j) % 4 = j by omega] : _ = ![512 * (⟨j, hj⟩ : Fin 4).val, 2048 * d.val])
    subst e6'
    unfold stage comp ready outs
    rw [if_pos (show 4 ≤ 12 + j by omega), if_neg (show ¬ 12 + j < 12 by omega), if_neg (show ¬ 12 + j < 12 by omega), show 12 + j - 4 = 8 + j by omega]
    iintro ⟨#Hlev, Hb, Hst, Hout, Hz, HO⟩ Hk
    iapply (wp_loadAll c _) $$ [Hb]; · iexact Hb
    iintro Hb
    iapply (wp_loadAll c _) $$ [Hst]; · iexact Hst
    iintro Hst
    iapply (wp_loadAll c _) $$ [Hb]; · iexact Hb
    iintro Hb
    iapply (wp_storeAll c (b := b)) $$ [Hb]; · iexists _; iexact Hb
    iintro Hb
    ihave Hout' := (bigSep_swap (⟨j, hj⟩ : Fin 4) (Φ := outAt m c d (12 + j)) (Φ' := outAt m c d (12 + j + 1)) (fun b' hb => by
      have hne : b'.val ≠ j := fun h => hb (Fin.ext h)
      unfold outAt
      by_cases h1 : b'.val < j
      · rw [if_pos (show 12 + b'.val < 12 + j by omega), if_pos (show 12 + b'.val < 12 + j + 1 by omega)]
      · rw [if_neg (show ¬ 12 + b'.val < 12 + j by omega), if_neg (show ¬ 12 + b'.val < 12 + j + 1 by omega)])) $$ Hout
    rw [show outAt m c d (12 + j) ⟨j, hj⟩ = some' c (oSlot d ⟨j, hj⟩) by unfold outAt; rw [if_neg (Nat.lt_irrefl _)],
      show outAt m c d (12 + j + 1) ⟨j, hj⟩ = owns (c : Thread nD τ) (oSlot d ⟨j, hj⟩) fullShare (final m d c ⟨j, hj⟩) by unfold outAt; rw [if_pos (Nat.lt_succ_self _)]]
    icases Hout' with ⟨Ho, Hout⟩
    iapply (wp_copy c (by decide) _ s0 s1) $$ [Hb Ho Hz HO]
    · isplitr; · iexact Hlev
      isplitl [Hb]; · iexact Hb
      isplitl [Ho]; · iexact Ho
      isplitl [Hz]; · iexact Hz
      iexact HO
    iintro ⟨Hb, Ho, Hz, HO⟩
    iapply Hk
    isplitl [Hb]; · iexists _; iexact Hb
    isplitl [Hst]; · iexists _; iexact Hst
    isplitl [Hout Ho]; · iapply Hout; iexact Ho
    isplitl [Hz]; · iexact Hz
    iexact HO
  · rw [if_neg h] at hc
    rw [dif_neg (hc ▸ one_ne)]
    unfold comp ready
    rw [if_pos (show i < 12 by omega), if_pos (show i < 12 by omega), show outs m c d (i + 1) = outs m c d i by
      unfold outs; exact bigSep_congr fun b' _ => by unfold outAt; rw [if_neg (by omega), if_neg (by omega)]]
    iintro ⟨#Hlev, Hb, Hst, Hout, Hz, HO⟩ Hk
    iapply Hk
    isplitl [Hb]; · iexact Hb
    isplitl [Hst]; · iapply (stage_drop m c d i); iexact Hst
    isplitl [Hout]; · iexact Hout
    isplitl [Hz]; · iexact Hz
    iexact HO

/-- Until the last step: the sending. -/
theorem blk_send (s0 s1 t0 t1 : ℕ) (b : Memref sig .tc .vmem S512x2048 .f32) (hi : i < 16) (hc : cond = if i < 12 then 1#1 else 0#1)
    (hO : ∀ st : Fin 12, st.val = i → Ow c s0 s1 = Ow c t0 t1 + tallyAt (kRcv (dest d c) d st) () N) (hO' : 12 ≤ i → Ow c s0 s1 = Ow c t0 t1)
    {o7 : Fin 4 → ℕ} (e7 : i < 12 → o7 = ![d.val, i % 4, 0, 0]) {i7 i7' : cond = 1#1 → ∀ a, o7 a + S1x1x512x2048.size a ≤ S2x4x512x2048.size a}
    {o8 : Fin 2 → ℕ} (e8 : i < 12 → o8 = ![d.val, i]) {i8 i8' : cond = 1#1 → ∀ a, o8 a + S1x1.size a ≤ S2x12.size a}
    {o9 : Fin 4 → ℕ} (e9 : i < 12 → o9 = ![d.val, i, 0, 0]) {i9 : cond = 1#1 → ∀ a, o9 a + S1x1x512x2048.size a ≤ S2x12x512x2048.size a}
    {n : ℕ} (hn : n = (dest d c).val) {hlt : cond = 1#1 → n < nD} {hsc : ∀ h : cond = 1#1, _}
    {x1 : ∀ h : cond = 1#1, _} {x2 : ∀ h : cond = 1#1, _} {x3 : ∀ h : cond = 1#1, _} {x4 : ∀ h : cond = 1#1, _} {x5 : ∀ h : cond = 1#1, _} {x6 : ∀ h : cond = 1#1, _} {x7 : ∀ h : cond = 1#1, _} {x8 : ∀ h : cond = 1#1, _} {k : Prog (TpuEff nD τ sig (Elt F) Λ₀ .tc) α} {Q : α → sProp 𝕄} :
    iprop(ctx m K ∗ dirState c d (i + 1 - 4) (min i 12) ∗ ready m c d b i ∗ locZ c ∗ owesE c (Ow c s0 s1))
      ⊢ iprop(((dirState c d (i + 1 - 4) (min (i + 1) 12) ∗ some' c b ∗ locZ c ∗ owesE c (Ow c t0 t1)) -∗ WP c k Q)
          -∗ WP c (if h : cond = 1#1 then
              .op (.enqueueDma b
                (.here ((sM.slice (Rect.unit (s := S2x4x512x2048) o7 S1x1x512x2048.size (i7 h)) (fun _ => rfl)).squeeze S512x2048 squeezes_S1x1x512x2048_S512x2048))
                (.dma locS) (x1 h) (x2 h) (x7 h))
              fun _ => .op (.waitDma2 locS b
                ((sM.slice (Rect.unit (s := S2x4x512x2048) o7 S1x1x512x2048.size (i7 h)) (fun _ => rfl)).squeeze S512x2048 squeezes_S1x1x512x2048_S512x2048) (x3 h) (x4 h))
              fun _ => .op (.enqueueDma
                ((sM.slice (Rect.unit (s := S2x4x512x2048) o7 S1x1x512x2048.size (i7' h)) (fun _ => rfl)).squeeze S512x2048 squeezes_S1x1x512x2048_S512x2048)
                (.remote (Dev.tc (⟨n, hlt h⟩ : Dev nD) : Thread nD τ)
                  ((rM.slice (Rect.unit (s := S2x12x512x2048) o9 S1x1x512x2048.size (i9 h)) (fun _ => rfl)).squeeze S512x2048 squeezes_S1x1x512x2048_S512x2048)
                  (.dma ((cc0_scratch5.slice (Rect.unit (s := S2x12) o8 S1x1.size (i8 h))).squeeze S_ squeezes_S1x1_S_).sem) (hsc h))
                (.dma ((cc0_scratch6.slice (Rect.unit (s := S2x12) o8 S1x1.size (i8' h))).squeeze S_ squeezes_S1x1_S_).sem) (x5 h) (x6 h) (x8 h)) fun _ => k
              else k) Q) := by
  by_cases h : i < 12
  · rw [if_pos h] at hc
    rw [dif_pos hc]
    unfold ready
    rw [if_pos h, show min i 12 = i by omega, show min (i + 1) 12 = i + 1 by omega]
    iintro ⟨#Hctx, Hdir, Hb, Hz, HO⟩ Hk
    iapply (seg_send m K c d ⟨i, h⟩ (i + 1 - 4) s0 s1 t0 t1 (show i + 1 - 4 ≤ i by omega) (show i < i + 1 - 4 + 4 by omega) (hO ⟨i, h⟩ rfl)
      (e7 h) (e8 h) (e9 h) (Fin.ext hn) b) $$ [Hdir Hb Hz HO]
    · isplitr; · iexact Hctx
      isplitl [Hdir]; · iexact Hdir
      isplitl [Hb]; · iexact Hb
      isplitl [Hz]; · iexact Hz
      iexact HO
    iexact Hk
  · rw [if_neg h] at hc
    rw [dif_neg (hc ▸ one_ne)]
    unfold ready
    rw [if_neg h, show min i 12 = 12 by omega, show min (i + 1) 12 = 12 by omega, hO' (by omega)]
    iintro ⟨#Hctx, Hdir, Hb, Hz, HO⟩ Hk
    iapply Hk
    isplitl [Hdir]; · iexact Hdir
    isplitl [Hb]; · iexact Hb
    isplitl [Hz]; · iexact Hz
    iexact HO

/-- At the first trip: direction 1's weights staged. -/
theorem blk_w (s0 s1 : ℕ) (hc : cond = if i = 0 then 1#1 else 0#1)
    {oA oB : Fin 2 → ℕ} (eA : oA = ![1024 * (0 : Fin 2).val, 2048 * (1 : Fin 2).val]) (eB : oB = ![1024 * (1 : Fin 2).val, 2048 * (1 : Fin 2).val])
    {iA : ∀ a, oA a + S1024x2048.size a ≤ S2048x4096.size a} {iB : ∀ a, oB a + S1024x2048.size a ≤ S2048x4096.size a}
    {oC oD : Fin 4 → ℕ} (eC : oC = ![(1 : Fin 2).val, (0 : Fin 2).val, 0, 0]) (eD : oD = ![(1 : Fin 2).val, (1 : Fin 2).val, 0, 0])
    {iC : ∀ a, oC a + S1x1x1024x2048.size a ≤ S2x2x1024x2048.size a} {iD : ∀ a, oD a + S1x1x1024x2048.size a ≤ S2x2x1024x2048.size a}
    {x1 : ∀ h : cond = 1#1, _} {x2 : ∀ h : cond = 1#1, _} {x3 : ∀ h : cond = 1#1, _} {x4 : ∀ h : cond = 1#1, _} {x5 : ∀ h : cond = 1#1, _} {x6 : ∀ h : cond = 1#1, _} {x7 : ∀ h : cond = 1#1, _} {x8 : ∀ h : cond = 1#1, _} {x9 : ∀ h : cond = 1#1, _} {x10 : ∀ h : cond = 1#1, _} {k : Prog (TpuEff nD τ sig (Elt F) Λ₀ .tc) α} {Q : α → sProp 𝕄} :
    iprop(levAts L lv ∗ wPts m c ∗ planesAt m c i ∗ locZ c ∗ owesE c (Ow c s0 s1))
      ⊢ iprop(((wPts m c ∗ planes m c 1 ∗ locZ c ∗ owesE c (Ow c s0 s1)) -∗ WP c k Q)
          -∗ WP c (if h : cond = 1#1 then
              .op (.enqueueDma (wM.slice (Rect.unit (s := S2048x4096) oA S1024x2048.size iA) (fun _ => rfl))
                (.here ((wcM.slice (Rect.unit (s := S2x2x1024x2048) oC S1x1x1024x2048.size iC) (fun _ => rfl)).squeeze S1024x2048 squeezes_S1x1x1024x2048_S1024x2048))
                (.dma locS) (x1 h) (x2 h) (x3 h))
              fun _ => .op (.waitDma2 locS (wM.slice (Rect.unit (s := S2048x4096) oA S1024x2048.size iA) (fun _ => rfl))
                ((wcM.slice (Rect.unit (s := S2x2x1024x2048) oC S1x1x1024x2048.size iC) (fun _ => rfl)).squeeze S1024x2048 squeezes_S1x1x1024x2048_S1024x2048) (x4 h) (x5 h))
              fun _ => .op (.enqueueDma (wM.slice (Rect.unit (s := S2048x4096) oB S1024x2048.size iB) (fun _ => rfl))
                (.here ((wcM.slice (Rect.unit (s := S2x2x1024x2048) oD S1x1x1024x2048.size iD) (fun _ => rfl)).squeeze S1024x2048 squeezes_S1x1x1024x2048_S1024x2048))
                (.dma locS) (x6 h) (x7 h) (x8 h))
              fun _ => .op (.waitDma2 locS (wM.slice (Rect.unit (s := S2048x4096) oB S1024x2048.size iB) (fun _ => rfl))
                ((wcM.slice (Rect.unit (s := S2x2x1024x2048) oD S1x1x1024x2048.size iD) (fun _ => rfl)).squeeze S1024x2048 squeezes_S1x1x1024x2048_S1024x2048) (x9 h) (x10 h))
              fun _ => k
              else k) Q) := by
  subst eA eB eC eD
  by_cases h : i = 0
  · rw [if_pos h] at hc
    rw [dif_pos hc]
    unfold planesAt
    rw [if_neg (by omega)]
    iintro ⟨#Hlev, Hw, ⟨H0, H1⟩, Hz, HO⟩ Hk
    iapply (wp_copyIn c (dst := wSlot 1 0) (by decide) (Finset.subset_univ _) (m ((c : Thread nD τ).loc main_arg1)) s0 s1) $$ [Hw H0 Hz HO]
    · isplitr; · iexact Hlev
      isplitl [Hw]; · iexact Hw
      isplitl [H0]; · iexact H0
      isplitl [Hz]; · iexact Hz
      iexact HO
    iintro ⟨Hw, H0, Hz, HO⟩
    iapply (wp_copyIn c (dst := wSlot 1 1) (by decide) (Finset.subset_univ _) (m ((c : Thread nD τ).loc main_arg1)) s0 s1) $$ [Hw H1 Hz HO]
    · isplitr; · iexact Hlev
      isplitl [Hw]; · iexact Hw
      isplitl [H1]; · iexact H1
      isplitl [Hz]; · iexact Hz
      iexact HO
    iintro ⟨Hw, H1, Hz, HO⟩
    iapply Hk
    isplitl [Hw]; · iexact Hw
    isplitl [H0 H1]
    · isplitl [H0]; · iexact H0
      iexact H1
    isplitl [Hz]; · iexact Hz
    iexact HO
  · rw [if_neg h] at hc
    rw [dif_neg (hc ▸ one_ne)]
    unfold planesAt
    rw [if_pos (by omega)]
    iintro ⟨#Hlev, Hw, Hp, Hz, HO⟩ Hk
    iapply Hk
    isplitl [Hw]; · iexact Hw
    isplitl [Hp]; · iexact Hp
    isplitl [Hz]; · iexact Hz
    iexact HO

end Cond

end Cert.TwoRing

end
-- ==== Proof.Trip.lean ====
/-
One trip of the kernel's loop.
-/
module

public import proofs.«01_k».proof.Proof.Blocks

@[expose] public section

noncomputable section

namespace Cert.TwoRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A sequence's weakest precondition, one program after the other. -/
theorem WP_bind {α β : Type} (c : Dev nD) (p : Prog (TpuEff nD τ sig (Elt F) Λ₀ .tc) α) (k : α → Prog (TpuEff nD τ sig (Elt F) Λ₀ .tc) β) (Q : β → sProp 𝕄) :
    WP c (p >>= k) Q = WP c p (fun a => WP c (k a) Q) := wp_bind _ _ _ p k Q
/-- A finished program's. -/
theorem WP_ret {α : Type} (c : Dev nD) (a : α) (Q : α → sProp 𝕄) : Q a ⊢ WP c (Prog.ret a) Q := le_wp_ret _ _ _ a Q

/-- What core `c` holds before trip `i`. -/
def tripState (m : (ℓ : Loc nD τ sig) → Buf (Elt F) ℓ) (c : Dev nD) (i : ℕ) : sProp 𝕄 :=
  iprop(dirState c 0 (i - 4) (min i 12) ∗ dirState c 1 (i - 4) (min i 12) ∗ outs m c 0 i ∗ outs m c 1 i
    ∗ xPts m c ∗ wPts m c ∗ some' c xtM ∗ some' c stM ∗ some' c (cM 0) ∗ some' c (cM 1) ∗ planes m c 0 ∗ planesAt m c i
    ∗ locZ c ∗ owesE c (Ow c (min i 12) (min i 12)))

/-- The trip's count as a word. -/
def tripW (k : Fin k0_t1_loop.trips) : BitVec 32 := Scf.iv 0#32 1#32 k
/-- The step before the trip's, as the kernel computes it. -/
def stepW (k : Fin k0_t1_loop.trips) : BitVec 32 :=
  let v43 : BitVec 32 := Scalar.divsi (tripW k) 4#32
  let v44 : BitVec 1 := Scalar.cmpi .sgt (tripW k) 0#32
  let v45 : BitVec 32 := Scalar.extui v44
  let v46 : BitVec 1 := Scalar.cmpi .slt (tripW k) 0#32
  let v47 : BitVec 32 := Scalar.extui v46
  let v48 : BitVec 32 := Scalar.subi v45 v47
  let v49 : BitVec 1 := Scalar.cmpi .sgt 4#32 0#32
  let v50 : BitVec 32 := Scalar.extui v49
  let v51 : BitVec 1 := Scalar.cmpi .slt 4#32 0#32
  let v52 : BitVec 32 := Scalar.extui v51
  let v53 : BitVec 32 := Scalar.subi v50 v52
  let v54 : BitVec 1 := Scalar.cmpi .ne v48 v53
  let v55 : BitVec 32 := Scalar.remsi (tripW k) 4#32
  let v56 : BitVec 1 := Scalar.cmpi .ne v55 0#32
  let v57 : BitVec 1 := Scalar.andi v54 v56
  let v58 : BitVec 32 := Scalar.subi v43 1#32
  Scalar.subi (Scalar.select v57 v58 v43) 1#32

/-- The word that decides whether a block is added: in the two middle steps. -/
def addW (k : Fin k0_t1_loop.trips) : BitVec 1 :=
  Scalar.cmpi .ne (Scalar.extui (Scalar.andi (Scalar.cmpi .sge (stepW k) 0#32) (Scalar.cmpi .slt (stepW k) 2#32)) : BitVec 32) 0#32
/-- The word that decides whether direction 1's weights are staged: at the first trip. -/
def firstW (k : Fin k0_t1_loop.trips) : BitVec 1 :=
  Scalar.cmpi .ne (Scalar.extui (Scalar.cmpi .eq (tripW k) 0#32) : BitVec 32) 0#32

theorem addW_eq (k : Fin k0_t1_loop.trips) : addW k = if 4 ≤ k.val ∧ k.val < 12 then 1#1 else 0#1 := by revert k; decide +kernel
theorem firstW_eq (k : Fin k0_t1_loop.trips) : firstW k = if k.val = 0 then 1#1 else 0#1 := by revert k; decide +kernel

theorem send_owes0 (c : Dev nD) (i : ℕ) (st : Fin 12) (h : st.val = i) :
    Ow c (min i 12) (min i 12) = Ow c (min (i + 1) 12) (min i 12) + tallyAt (kRcv (dest 0 c) 0 st) () N := by
  have h2 := st.isLt
  subst h
  rw [show min st.val 12 = st.val by omega, show min (st.val + 1) 12 = st.val + 1 by omega]; exact Ow_succ0 c st st.val
theorem send_owes1 (c : Dev nD) (i : ℕ) (st : Fin 12) (h : st.val = i) :
    Ow c (min (i + 1) 12) (min i 12) = Ow c (min (i + 1) 12) (min (i + 1) 12) + tallyAt (kRcv (dest 1 c) 1 st) () N := by
  have h2 := st.isLt
  subst h
  rw [show min st.val 12 = st.val by omega, show min (st.val + 1) 12 = st.val + 1 by omega]; exact Ow_succ1 c (st.val + 1) st

set_option maxHeartbeats 1000000 in
/-- Trip `k` takes what a core holds before it to what it holds before the next. -/
theorem trip (m : (ℓ : Loc nD τ sig) → Buf (Elt F) ℓ) (K : Dev nD × CK → ℕ) (c : Dev nD) (v2 v13 v24 : BitVec 32) (k : Fin k0_t1_loop.trips) :
    iprop(ctx m K ∗ tripState m c k.val)
      ⊢ WP c (k0_t1_body (F := F) xM (Memref.isWhole_whole _) wM (Memref.isWhole_whole _) oM (Memref.isWhole_whole _)
          rM (Memref.isWhole_whole _) sM (Memref.isWhole_whole _) (cM 0) (Memref.isWhole_whole _) (cM 1) (Memref.isWhole_whole _) stM (Memref.isWhole_whole _)
          xtM (Memref.isWhole_whole _) wcM (Memref.isWhole_whole _) cc0_scratch5 cc0_scratch6 cc0_scratch7 cc0_scoped0 c v2 v13 v24 k ())
        (fun _ => tripState m c (k.val + 1)) := by
  unfold k0_t1_body
  simp only [k0_part1_eq_skeleton, k0_part2_eq_skeleton, k0_part3_eq_skeleton, k0_part4_eq_skeleton]
  unfold k0_part1_skel k0_part2_skel k0_part3_skel k0_part4_skel
  simp only [Prog.lift, Prog.bind_op, Prog.bind_ret, Prog.pure_eq_ret]
  have hk := trip_lt k
  unfold tripState
  iintro ⟨#Hctx, Hd0, Hd1, Ho0, Ho1, Hx, Hw, Hxt, Hst, Hb0, Hb1, Hp0, Hp1, Hz, HO⟩
  -- direction 0
  iapply (seg_part m c 0 k.val (min k.val 12) (min k.val 12) (cM 0) (off1_eq c k) (off2_eq c k) (oC := ![0, 0, 0, 0]) (oD := ![0, 1, 0, 0]) rfl rfl) $$ [Hx Hxt Hp0 Hb0 Hz HO]
  · isplitr; · iapply (ctx_lev m K); iexact Hctx
    isplitl [Hx]; · iexact Hx
    isplitl [Hxt]; · iexact Hxt
    isplitl [Hp0]; · iexact Hp0
    isplitl [Hb0]; · iexact Hb0
    isplitl [Hz]; · iexact Hz
    iexact HO
  iintro ⟨Hx, Hxt, Hp0, Hb0, Hz, HO⟩
  rw [WP_bind]
  iapply (blk_wait m K c 0 k.val (min k.val 12) (min k.val 12) hk (by omega) (by omega) (cond1_eq k) (off3_eq k) (off4_eq k) (off5_eq k)) $$ [Hd0 Hst Hz HO]
  · isplitr; · iexact Hctx
    isplitl [Hd0]; · iexact Hd0
    isplitl [Hst]; · iexact Hst
    isplitl [Hz]; · iexact Hz
    iexact HO
  iintro ⟨Hd0, Hst, Hz, HO⟩
  iapply (WP_ret c _ _)
  rw [WP_bind]
  iapply (blk_add m c 0 k.val (cM 0) (addW_eq k)) $$ [Hb0 Hst]
  · isplitl [Hb0]; · iexact Hb0
    iexact Hst
  iintro ⟨Hb0, Hst⟩
  iapply (blk_out m c 0 k.val (min k.val 12) (min k.val 12) (cM 0) hk (cond3_eq k) (off6_eq k)) $$ [Hb0 Hst Ho0 Hz HO]
  · isplitr; · iapply (ctx_lev m K); iexact Hctx
    isplitl [Hb0]; · iexact Hb0
    isplitl [Hst]; · iexact Hst
    isplitl [Ho0]; · iexact Ho0
    isplitl [Hz]; · iexact Hz
    iexact HO
  iintro ⟨Hb0, Hst, Ho0, Hz, HO⟩
  iapply (blk_send m K c 0 k.val (min k.val 12) (min k.val 12) (min (k.val + 1) 12) (min k.val 12) (cM 0) hk (cond4_eq k) (send_owes0 c k.val)
      (fun h => by rw [show min (k.val + 1) 12 = min k.val 12 by omega]) (off7_eq k) (off8_eq k) (off9_eq k) (dev3_val c)) $$ [Hd0 Hb0 Hz HO]
  · isplitr; · iexact Hctx
    isplitl [Hd0]; · iexact Hd0
    isplitl [Hb0]; · iexact Hb0
    isplitl [Hz]; · iexact Hz
    iexact HO
  iintro ⟨Hd0, Hb0, Hz, HO⟩
  iapply (blk_w m c k.val (min (k.val + 1) 12) (min k.val 12) (firstW_eq k) (oA := ![0, 2048]) (oB := ![1024, 2048]) rfl rfl
      (oC := ![1, 0, 0, 0]) (oD := ![1, 1, 0, 0]) rfl rfl) $$ [Hw Hp1 Hz HO]
  · isplitr; · iapply (ctx_lev m K); iexact Hctx
    isplitl [Hw]; · iexact Hw
    isplitl [Hp1]; · iexact Hp1
    isplitl [Hz]; · iexact Hz
    iexact HO
  iintro ⟨Hw, Hp1, Hz, HO⟩
  rw [← WP_bind]
  simp only [Prog.bind_op, Prog.bind_ret]
  -- direction 1
  iapply (seg_part m c 1 k.val (min (k.val + 1) 12) (min k.val 12) (cM 1) (off10_eq c k) (off11_eq c k) (oC := ![1, 0, 0, 0]) (oD := ![1, 1, 0, 0]) rfl rfl) $$ [Hx Hxt Hp1 Hb1 Hz HO]
  · isplitr; · iapply (ctx_lev m K); iexact Hctx
    isplitl [Hx]; · iexact Hx
    isplitl [Hxt]; · iexact Hxt
    isplitl [Hp1]; · iexact Hp1
    isplitl [Hb1]; · iexact Hb1
    isplitl [Hz]; · iexact Hz
    iexact HO
  iintro ⟨Hx, Hxt, Hp1, Hb1, Hz, HO⟩
  rw [WP_bind]
  iapply (blk_wait m K c 1 k.val (min (k.val + 1) 12) (min k.val 12) hk (by omega) (by omega) (cond6_eq k) (off12_eq k) (off13_eq k) (off14_eq k)) $$ [Hd1 Hst Hz HO]
  · isplitr; · iexact Hctx
    isplitl [Hd1]; · iexact Hd1
    isplitl [Hst]; · iexact Hst
    isplitl [Hz]; · iexact Hz
    iexact HO
  iintro ⟨Hd1, Hst, Hz, HO⟩
  iapply (blk_add m c 1 k.val (cM 1) (addW_eq k)) $$ [Hb1 Hst]
  · isplitl [Hb1]; · iexact Hb1
    iexact Hst
  iintro ⟨Hb1, Hst⟩
  iapply (blk_out m c 1 k.val (min (k.val + 1) 12) (min k.val 12) (cM 1) hk (cond8_eq k) (off15_eq k)) $$ [Hb1 Hst Ho1 Hz HO]
  · isplitr; · iapply (ctx_lev m K); iexact Hctx
    isplitl [Hb1]; · iexact Hb1
    isplitl [Hst]; · iexact Hst
    isplitl [Ho1]; · iexact Ho1
    isplitl [Hz]; · iexact Hz
    iexact HO
  iintro ⟨Hb1, Hst, Ho1, Hz, HO⟩
  iapply (WP_ret c _ _)
  iapply (blk_send m K c 1 k.val (min (k.val + 1) 12) (min k.val 12) (min (k.val + 1) 12) (min (k.val + 1) 12) (cM 1) hk (cond9_eq k) (send_owes1 c k.val)
      (fun h => by rw [show min (k.val + 1) 12 = min k.val 12 by omega]) (off16_eq k) (off17_eq k) (off18_eq k) (dev4_val c)) $$ [Hd1 Hb1 Hz HO]
  · isplitr; · iexact Hctx
    isplitl [Hd1]; · iexact Hd1
    isplitl [Hb1]; · iexact Hb1
    isplitl [Hz]; · iexact Hz
    iexact HO
  iintro ⟨Hd1, Hb1, Hz, HO⟩
  iapply (WP_ret c _ _)
  isplitl [Hd0]; · iexact Hd0
  isplitl [Hd1]; · iexact Hd1
  isplitl [Ho0]; · iexact Ho0
  isplitl [Ho1]; · iexact Ho1
  isplitl [Hx]; · iexact Hx
  isplitl [Hw]; · iexact Hw
  isplitl [Hxt]; · iexact Hxt
  isplitl [Hst]; · iexact Hst
  isplitl [Hb0]; · iexact Hb0
  isplitl [Hb1]; · iexact Hb1
  isplitl [Hp0]; · iexact Hp0
  isplitl [Hp1]; · unfold planesAt; rw [if_pos (show 1 ≤ k.val + 1 by omega)]; iexact Hp1
  isplitl [Hz]; · iexact Hz
  iexact HO

end Cert.TwoRing

end
-- ==== Proof.Shake.lean ====
/-
The two handshakes, the staging of the first weights, and how a direction's state begins and ends.
-/
module

public import proofs.«01_k».proof.Proof.Trip

@[expose] public section

noncomputable section

namespace Cert.TwoRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ)
variable {α : Type} (c : Dev nD)

theorem bigSep_two (Φ : Fin 2 → sProp 𝕄) : bigSep Finset.univ Φ = iprop(Φ 0 ∗ Φ 1) := bigSep_univ_eq_bigSepL [0, 1] (by decide) (by decide) Φ

/-- A handshake on cell `j` of every core: a signal to either neighbour, then the wait for both. -/
theorem seg_shake (j : Fin 2) {s : Sem sig} (hs : csem (.inr j) = SemLoc.reg s) {x0 x1 : Dev nD} (h0 : x0 = sour 0 c) (h1 : x1 = sour 1 c)
    (O O1 O2 : CellTallies nD τ sig Unit) (hO : O = O1 + tallyAt (kcell (sour 0 c, .inr j)) () 1)
    (hO1 : O1 = O2 + tallyAt (kcell (sour 1 c, .inr j)) () 1)
    (hM : (levAts L lv : sProp 𝕄) ⊢ MayWait (c : Thread nD τ) (csem (.inr j)) () O2)
    {k : PUnit → Prog (TpuEff nD τ sig (Elt F) Λ₀ .tc) α} {Q : α → sProp 𝕄} :
    iprop(ctx m K ∗ atPos ER (kcell (c, .inr j)) 0 ∅ 0 ∗ cred (tallyAt (kcell (c, .inr j)) () 2)
        ∗ dutyTok ER (kcell (sour 0 c, .inr j)) 0 0 ∗ dutyTok ER (kcell (sour 1 c, .inr j)) 0 1
        ∗ payOf m (sour 0 c) 0 (.inr j) ∗ payOf m (sour 1 c) 1 (.inr j) ∗ owesE c O)
      ⊢ iprop(((atPos ER (kcell (c, .inr j)) 1 ∅ 0 ∗ payOf m c 0 (.inr j) ∗ payOf m c 1 (.inr j) ∗ owesE c O2) -∗ WP c (k ⟨⟩) Q)
          -∗ WP c (.op (.semSignal (x0, .tc) s (1#32).toInt) fun _ => .op (.semSignal (x1, .tc) s (1#32).toInt)
              fun _ => .op (.semWait s (2#32).toInt) k) Q) := by
  subst h0 h1
  have hk : ∀ x : Dev nD, kcell (x, .inr j) = ((x : Thread nD τ), SemLoc.reg s) := fun x => Prod.ext rfl hs
  have hinv : ∀ x : Dev nD, ctx m K ⊢ cellInv ER (ringRd m) (K (x, .inr j)) ((x : Thread nD τ), SemLoc.reg s) := fun x => hk x ▸ ctx_inv m K (x, .inr j)
  have hre : ∀ x : Dev nD, ctx m K ⊢ reached ER ((x : Thread nD τ), SemLoc.reg s) 0 := fun x => hk x ▸ ctx_reached m K (x, .inr j)
  have hdut : ∀ x : Dev nD, (ringRd m).duties ((x : Thread nD τ), SemLoc.reg s) 0 = Finset.univ := fun x => hk x ▸ duties_at m x (.inr j)
  have ham : ∀ (x : Dev nD) d, (ringRd m).amount ((x : Thread nD τ), SemLoc.reg s) 0 d = 1 := fun x d => hk x ▸ amount_at m x (.inr j) d
  have hpay : ∀ (x : Dev nD) d, (ringRd m).payload ((x : Thread nD τ), SemLoc.reg s) 0 d = payOf m x d (.inr j) := fun x d => hk x ▸ payload_at m x (.inr j) d
  have hexp : ∀ x : Dev nD, (ringRd m).expect ((x : Thread nD τ), SemLoc.reg s) 0 = 2 := fun x => hk x ▸ expect_at m x (.inr j)
  have hrest : ∀ x : Dev nD, (bigSep ((ringRd (F := F) m).duties ((x : Thread nD τ), SemLoc.reg s) 0 \ ∅) fun d => (ringRd (F := F) m).payload ((x : Thread nD τ), SemLoc.reg s) 0 d)
      = iprop(payOf m x 0 (.inr j) ∗ payOf m x 1 (.inr j)) := fun x => (hk x ▸ rest_at m x (.inr j)).trans (bigSep_two _)
  rw [hk] at hO hO1
  rw [hs] at hM
  simp only [hk]
  iintro ⟨#Hctx, Hat, Hc, Ht0, Ht1, Hp0, Hp1, ⟨%W, HO⟩⟩ Hk
  iapply (Rounds.wp_signal 𝒱₀ ER (ringRd m) (c : Thread nD τ) none (dst := (sour 0 c : Thread nD τ)) (κ := K (sour 0 c, .inr j))
      (d := 0) (by rw [hdut]; exact Finset.mem_univ _) ((ham (sour 0 c) 0).trans (by decide)) () O1 hO) $$ [HO Ht0 Hp0]
  · isplitr; · iapply (hinv (sour 0 c)); iexact Hctx
    isplitl [HO]; · iexact HO
    isplitl [Ht0]; · iexact Ht0
    isplitl [Hp0]; · rw [hpay]; iexact Hp0
    iapply (hre (sour 0 c)); iexact Hctx
  iintro HO
  iapply (Rounds.wp_signal 𝒱₀ ER (ringRd m) (c : Thread nD τ) none (dst := (sour 1 c : Thread nD τ)) (κ := K (sour 1 c, .inr j))
      (d := 1) (by rw [hdut]; exact Finset.mem_univ _) ((ham (sour 1 c) 1).trans (by decide)) () O2 hO1) $$ [HO Ht1 Hp1]
  · isplitr; · iapply (hinv (sour 1 c)); iexact Hctx
    isplitl [HO]; · iexact HO
    isplitl [Ht1]; · iexact Ht1
    isplitl [Hp1]; · rw [hpay]; iexact Hp1
    iapply (hre (sour 1 c)); iexact Hctx
  iintro HO
  iapply (Rounds.wp_wait_rest_token 𝒱₀ ER (ringRd m) (c : Thread nD τ) none (κ := K (c, .inr j))
      (wpE_semWait_eq 𝒱₀ (c : Thread nD τ) none Set.univ) (Set.mem_univ _) () (O := O2) (W := W) (R := 0) (m := 0) (T := ∅)
      (by rw [hexp]; decide)) $$ [Hc HO Hat]
  · isplitr; · iapply (hinv c); iexact Hctx
    isplitl [Hc]; · iexact Hc
    isplitl [HO]; · iexact HO
    isplitr; · iapply hM; iapply (ctx_lev m K); iexact Hctx
    iexact Hat
  iintro ⟨HO, Hat, -, Hpay⟩
  ihave Hp := (Entails.of_eq (hrest c)) $$ Hpay
  icases Hp with ⟨Hp0, Hp1⟩
  iapply Hk
  isplitl [Hat]; · iexact Hat
  isplitl [Hp0]; · iexact Hp0
  isplitl [Hp1]; · iexact Hp1
  iexists _; iexact HO

/-- Direction 0's weights staged before the loop. -/
theorem seg_w (s0 s1 : ℕ)
    {oA oB : Fin 2 → ℕ} (eA : oA = ![1024 * (0 : Fin 2).val, 2048 * (0 : Fin 2).val]) (eB : oB = ![1024 * (1 : Fin 2).val, 2048 * (0 : Fin 2).val])
    {iA : ∀ a, oA a + S1024x2048.size a ≤ S2048x4096.size a} {iB : ∀ a, oB a + S1024x2048.size a ≤ S2048x4096.size a}
    {oC oD : Fin 4 → ℕ} (eC : oC = ![(0 : Fin 2).val, (0 : Fin 2).val, 0, 0]) (eD : oD = ![(0 : Fin 2).val, (1 : Fin 2).val, 0, 0])
    {iC : ∀ a, oC a + S1x1x1024x2048.size a ≤ S2x2x1024x2048.size a} {iD : ∀ a, oD a + S1x1x1024x2048.size a ≤ S2x2x1024x2048.size a}
    {x1 x2 x3 x4 x5 x6 x7 x8 x9 x10} {k : PUnit → Prog (TpuEff nD τ sig (Elt F) Λ₀ .tc) α} {Q : α → sProp 𝕄} :
    iprop(levAts L lv ∗ wPts m c ∗ some' c (wSlot 0 0) ∗ some' c (wSlot 0 1) ∗ locZ c ∗ owesE c (Ow c s0 s1))
      ⊢ iprop(((wPts m c ∗ planes m c 0 ∗ locZ c ∗ owesE c (Ow c s0 s1)) -∗ WP c (k ⟨⟩) Q)
          -∗ WP c (.op (.enqueueDma (wM.slice (Rect.unit (s := S2048x4096) oA S1024x2048.size iA) (fun _ => rfl))
                (.here ((wcM.slice (Rect.unit (s := S2x2x1024x2048) oC S1x1x1024x2048.size iC) (fun _ => rfl)).squeeze S1024x2048 squeezes_S1x1x1024x2048_S1024x2048))
                (.dma locS) x1 x2 x3)
              fun _ => .op (.waitDma2 locS (wM.slice (Rect.unit (s := S2048x4096) oA S1024x2048.size iA) (fun _ => rfl))
                ((wcM.slice (Rect.unit (s := S2x2x1024x2048) oC S1x1x1024x2048.size iC) (fun _ => rfl)).squeeze S1024x2048 squeezes_S1x1x1024x2048_S1024x2048) x4 x5)
              fun _ => .op (.enqueueDma (wM.slice (Rect.unit (s := S2048x4096) oB S1024x2048.size iB) (fun _ => rfl))
                (.here ((wcM.slice (Rect.unit (s := S2x2x1024x2048) oD S1x1x1024x2048.size iD) (fun _ => rfl)).squeeze S1024x2048 squeezes_S1x1x1024x2048_S1024x2048))
                (.dma locS) x6 x7 x8)
              fun _ => .op (.waitDma2 locS (wM.slice (Rect.unit (s := S2048x4096) oB S1024x2048.size iB) (fun _ => rfl))
                ((wcM.slice (Rect.unit (s := S2x2x1024x2048) oD S1x1x1024x2048.size iD) (fun _ => rfl)).squeeze S1024x2048 squeezes_S1x1x1024x2048_S1024x2048) x9 x10)
              k) Q) := by
  subst eA eB eC eD
  iintro ⟨#Hlev, Hw, H0, H1, Hz, HO⟩ Hk
  iapply (wp_copyIn c (dst := wSlot 0 0) (by decide) (Finset.subset_univ _) (m ((c : Thread nD τ).loc main_arg1)) s0 s1) $$ [Hw H0 Hz HO]
  · isplitr; · iexact Hlev
    isplitl [Hw]; · iexact Hw
    isplitl [H0]; · iexact H0
    isplitl [Hz]; · iexact Hz
    iexact HO
  iintro ⟨Hw, H0, Hz, HO⟩
  iapply (wp_copyIn c (dst := wSlot 0 1) (by decide) (Finset.subset_univ _) (m ((c : Thread nD τ).loc main_arg1)) s0 s1) $$ [Hw H1 Hz HO]
  · isplitr; · iexact Hlev
    isplitl [Hw]; · iexact Hw
    isplitl [H1]; · iexact H1
    isplitl [Hz]; · iexact Hz
    iexact HO
  iintro ⟨Hw, H1, Hz, HO⟩
  iapply Hk
  isplitl [Hw]; · iexact Hw
  isplitl [H0 H1]
  · isplitl [H0]; · iexact H0
    iexact H1
  isplitl [Hz]; · iexact Hz
  iexact HO

/-! ## A direction's state at the beginning and at the end -/

section Dir
variable (d : Fin 2)

/-- Before the loop: nothing sent, every slot here. -/
theorem dir_start :
    iprop((bigSep Finset.univ fun st => atPos ER (kSnd c d st) 0 ∅ 0) ∗ (bigSep Finset.univ fun st => atPos ER (kRcv c d st) 0 ∅ 0)
        ∗ (bigSep Finset.univ fun st => cred (tallyAt (kRcv c d st) () N)) ∗ (bigSep Finset.univ fun st => dutyTok ER (kSnd c d st) 0 0)
        ∗ (bigSep Finset.univ fun st => dutyTok ER (kRcv (dest d c) d st) 0 0) ∗ barPay c d
        ∗ bigSep Finset.univ fun b => some' c (sSlot d b))
      ⊢ dirState (F := F) c d 0 0 := by
  have hst : (stAt (F := F) c d 0 0) = stIdle c d := funext fun st => by
    unfold stAt; rw [if_neg (Nat.not_lt_zero _), if_neg (Nat.not_lt_zero _)]
  have hsl : (slotAt (F := F) c d 0 0) = fun b => some' c (sSlot d b) := funext fun b => by
    unfold slotAt; rw [if_neg]; rintro ⟨j, -, h, -⟩; exact Nat.not_lt_zero _ h
  unfold dirState
  rw [hst, hsl]
  unfold stIdle
  simp only [bigSep_sep']
  unfold barPay
  iintro ⟨H1, H2, H3, H4, H5, H6, H7⟩
  isplitl [H1 H2 H3 H4 H5 H6]
  · isplitl [H1]; · iexact H1
    isplitl [H2]; · iexact H2
    isplitl [H3]; · iexact H3
    isplitl [H4]; · iexact H4
    isplitl [H5]; · iexact H5
    iexact H6
  iexact H7

/-- After it: every transfer waited for. -/
theorem dir_end : dirState (F := F) c d 12 12
    ⊢ iprop((bigSep Finset.univ fun st => atPos ER (kSnd c d st) 1 ∅ 0) ∗ bigSep Finset.univ fun st => atPos ER (kRcv c d st) 1 ∅ 0) := by
  have hst : (stAt (F := F) c d 12 12) = stDone c d := funext fun st => by unfold stAt; rw [if_pos st.isLt]
  unfold dirState
  rw [hst]
  unfold stDone
  simp only [bigSep_sep']
  iintro ⟨H, -⟩
  iexact H

end Dir

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- A cell all of whose duties are paid and waited for closes. -/
theorem close_one (k : CK) : iprop(ctx m K ∗ atPos ER (kcell (c, k)) 1 ∅ 0) ⊢ (|={Set.univ}=> semVal (kcell (c, k)) 0 : sProp 𝕄) := by
  iintro ⟨#Hctx, Hat⟩
  imod (Rounds.cell_close ER (ringRd m) (Set.mem_univ (K (c, k))) (fun h => h) (R := 0 + 1) (duties_later m (kcell (c, k)))) $$ [Hat] with Hz
  · isplitr; · iapply (ctx_inv m K (c, k)); iexact Hctx
    iexact Hat
  imodintro; iexact Hz

/-- So do all of a core's. -/
theorem close_all : iprop(ctx m K ∗ bigSep Finset.univ fun k : CK => atPos ER (kcell (c, k)) 1 ∅ 0)
    ⊢ (|={Set.univ}=> bigSep Finset.univ fun k : CK => semVal (kcell (c, k)) 0 : sProp 𝕄) :=
  (bigSep_with_persistent fun k _ => close_one m K c k).trans (bigSep_fupd _ _)

/-- A family over a core's cells, kind by kind. -/
theorem bigSep_ck (Φ : CK → sProp 𝕄) : bigSep Finset.univ Φ
    = iprop((((bigSep Finset.univ fun st => Φ (.inl (.inl (0, st)))) ∗ bigSep Finset.univ fun st => Φ (.inl (.inl (1, st))))
        ∗ ((bigSep Finset.univ fun st => Φ (.inl (.inr (0, st)))) ∗ bigSep Finset.univ fun st => Φ (.inl (.inr (1, st)))))
        ∗ Φ (.inr 0) ∗ Φ (.inr 1)) := by
  rw [bigSep_univ_sum, bigSep_univ_sum, bigSep_univ_prod, bigSep_univ_prod, bigSep_two, bigSep_two, bigSep_two]; rfl

end Cert.TwoRing

end
-- ==== Proof.Body.lean ====
/-
The kernel's body on one core: the barrier, the first weights, the loop, the closing handshake.
-/
module

public import proofs.«01_k».proof.Proof.Shake
public import proofs.«01_k».proof.Proof.Gen.KernelIdeal.Points
public import proofs.«01_k».proof.Proof.Gen.KernelIdeal.Launch

@[expose] public section

noncomputable section

namespace Cert.TwoRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ) (c : Dev nD)

/-- The tokens of the duties core `c` pays. -/
def payToks : sProp 𝕄 :=
  iprop(((bigSep Finset.univ fun st => dutyTok ER (kSnd c 0 st) 0 0) ∗ (bigSep Finset.univ fun st => dutyTok ER (kSnd c 1 st) 0 0)
      ∗ (bigSep Finset.univ fun st => dutyTok ER (kRcv (dest 0 c) 0 st) 0 0) ∗ (bigSep Finset.univ fun st => dutyTok ER (kRcv (dest 1 c) 1 st) 0 0))
    ∗ (dutyTok ER (kcell (sour 0 c, .inr 0)) 0 0 ∗ dutyTok ER (kcell (sour 1 c, .inr 0)) 0 1)
    ∗ (dutyTok ER (kcell (sour 0 c, .inr 1)) 0 0 ∗ dutyTok ER (kcell (sour 1 c, .inr 1)) 0 1))

/-- A core's positions on its own cells, and those tokens. -/
def linear : sProp 𝕄 := iprop((bigSep Finset.univ fun k : CK => atPos ER (kcell (c, k)) 0 ∅ 0) ∗ payToks c)

/-- The credit a core's own cells are to receive. -/
def credsOf : sProp 𝕄 :=
  iprop((bigSep Finset.univ fun st => cred (tallyAt (kRcv c 0 st) () N)) ∗ (bigSep Finset.univ fun st => cred (tallyAt (kRcv c 1 st) () N))
    ∗ cred (tallyAt (kcell (c, .inr 0)) () 2) ∗ cred (tallyAt (kcell (c, .inr 1)) () 2))

/-- The memory the body works in, but for the arguments. -/
def memPre : sProp 𝕄 :=
  iprop(((bigSep Finset.univ fun st => some' c (rSlot 0 st)) ∗ (bigSep Finset.univ fun st => some' c (rSlot 1 st)))
    ∗ ((bigSep Finset.univ fun b => some' c (sSlot 0 b)) ∗ (bigSep Finset.univ fun b => some' c (sSlot 1 b)))
    ∗ (outs m c 0 0 ∗ outs m c 1 0)
    ∗ (some' c (cM 0) ∗ some' c (cM 1) ∗ some' c stM ∗ some' c xtM)
    ∗ (some' c (wSlot 0 0) ∗ some' c (wSlot 0 1) ∗ some' c (wSlot 1 0) ∗ some' c (wSlot 1 1)))

def bodyPre : sProp 𝕄 :=
  iprop(linear c ∗ credsOf c ∗ xPts m c ∗ wPts m c ∗ memPre m c ∗ locZ c ∗ owesE c (O₀ c))

def bodyPost : sProp 𝕄 :=
  iprop(xPts m c ∗ wPts m c ∗ (outs m c 0 16 ∗ outs m c 1 16)
    ∗ (some' c (cM 0) ∗ some' c (cM 1) ∗ some' c stM ∗ some' c xtM)
    ∗ (some' c (wSlot 0 0) ∗ some' c (wSlot 0 1) ∗ some' c (wSlot 1 0) ∗ some' c (wSlot 1 1))
    ∗ (bigSep Finset.univ fun k : CK => semVal (kcell (c, k)) 0) ∗ locZ c ∗ owesE c 0)

/-- The trips' state before the first. -/
theorem trip_first : iprop(dirState c 0 0 0 ∗ dirState c 1 0 0 ∗ (outs m c 0 0 ∗ outs m c 1 0) ∗ xPts m c ∗ wPts m c
      ∗ (some' c (cM 0) ∗ some' c (cM 1) ∗ some' c stM ∗ some' c xtM) ∗ planes m c 0 ∗ (some' c (wSlot 1 0) ∗ some' c (wSlot 1 1))
      ∗ locZ c ∗ owesE c (Ow c 0 0))
    ⊢ tripState m c 0 := by
  unfold tripState planesAt
  rw [if_neg (show ¬ 1 ≤ 0 by omega), show min 0 12 = 0 from rfl, show 0 - 4 = 0 from rfl]
  iintro ⟨Hd0, Hd1, ⟨Ho0, Ho1⟩, Hx, Hw, ⟨Hb0, Hb1, Hst, Hxt⟩, Hp0, Hp1, Hz, HO⟩
  isplitl [Hd0]; · iexact Hd0
  isplitl [Hd1]; · iexact Hd1
  isplitl [Ho0]; · iexact Ho0
  isplitl [Ho1]; · iexact Ho1
  isplitl [Hx]; · iexact Hx
  isplitl [Hw]; · iexact Hw
  isplitl [Hxt]; · iexact Hxt
  isplitl [Hst]; · iexact Hst
  isplitl [Hb0]; · iexact Hb0
  isplitl [Hb1]; · iexact Hb1
  isplitl [Hp0]; · iexact Hp0
  isplitl [Hp1]; · iexact Hp1
  isplitl [Hz]; · iexact Hz
  iexact HO

theorem some_planes (d : Fin 2) : planes m c d ⊢ iprop(some' c (wSlot d 0) ∗ some' c (wSlot d 1)) := by
  iintro ⟨H0, H1⟩
  isplitl [H0]
  · iexists _; iexact H0
  · iexists _; iexact H1

/-- And after the last. -/
theorem trip_last : tripState m c k0_t1_loop.trips
    ⊢ iprop(dirState c 0 12 12 ∗ dirState c 1 12 12 ∗ (outs m c 0 16 ∗ outs m c 1 16) ∗ xPts m c ∗ wPts m c
      ∗ (some' c (cM 0) ∗ some' c (cM 1) ∗ some' c stM ∗ some' c xtM)
      ∗ (some' c (wSlot 0 0) ∗ some' c (wSlot 0 1) ∗ some' c (wSlot 1 0) ∗ some' c (wSlot 1 1))
      ∗ locZ c ∗ owesE c (Osec c)) := by
  rw [trips_eq]
  unfold tripState planesAt
  rw [if_pos (show 1 ≤ 16 by omega), show min 16 12 = 12 from rfl, show 16 - 4 = 12 from rfl, Ow_end c 12 12 (le_refl _) (le_refl _)]
  iintro ⟨Hd0, Hd1, Ho0, Ho1, Hx, Hw, Hxt, Hst, Hb0, Hb1, Hp0, Hp1, Hz, HO⟩
  ihave Hq0 := (some_planes m c 0) $$ Hp0
  ihave Hq1 := (some_planes m c 1) $$ Hp1
  icases Hq0 with ⟨H00, H01⟩
  icases Hq1 with ⟨H10, H11⟩
  isplitl [Hd0]; · iexact Hd0
  isplitl [Hd1]; · iexact Hd1
  isplitl [Ho0 Ho1]
  · isplitl [Ho0]; · iexact Ho0
    iexact Ho1
  isplitl [Hx]; · iexact Hx
  isplitl [Hw]; · iexact Hw
  isplitl [Hb0 Hb1 Hst Hxt]
  · isplitl [Hb0]; · iexact Hb0
    isplitl [Hb1]; · iexact Hb1
    isplitl [Hst]; · iexact Hst
    iexact Hxt
  isplitl [H00 H01 H10 H11]
  · isplitl [H00]; · iexact H00
    isplitl [H01]; · iexact H01
    isplitl [H10]; · iexact H10
    iexact H11
  isplitl [Hz]; · iexact Hz
  iexact HO

/-- The receive slots a core hands its neighbour over the barrier are its own. -/
theorem bar_own (d : Fin 2) : (bigSep Finset.univ fun st => some' c (rSlot d st)) ⊢ payOf (F := F) m (sour d c) d (.inr 1) := by
  show _ ⊢ barPay (sour d c) d
  unfold barPay; rw [dest_sour]

set_option maxHeartbeats 1000000 in
/-- The body takes what a core starts from to its result's blocks in place and its counters at zero. -/
theorem sound_body (Kt : PUnit → sProp 𝕄) :
    iprop(ctx m K ∗ bodyPre m c) ⊢ iprop((bodyPost m c -∗ Kt ⟨⟩) -∗ WP c (bodyAt0 (F := F) t0_0) Kt) := by
  unfold bodyAt0
  simp only [cc0__body_eq_skeleton]
  unfold cc0__body_skel
  simp only [k0_part6_eq_skeleton]
  unfold k0_part6_skel
  simp only [k0_part5_eq_skeleton]
  unfold k0_part5_skel
  simp only [semSignalWord, semWaitWord, Prog.lift, Prog.bind_op, Prog.bind_ret, Prog.pure_eq_ret, wp_deviceId]
  simp only [dev1_eq c, dev2_eq c, dev5_eq c, dev6_eq c]
  unfold bodyPre linear credsOf memPre payToks
  rw [bigSep_ck]
  iintro ⟨#Hctx, ⟨⟨⟨⟨HaS0, HaS1⟩, HaR0, HaR1⟩, HaSec, HaBar⟩, ⟨HtS0, HtS1, HtR0, HtR1⟩, ⟨HtX0, HtX1⟩, HtB0, HtB1⟩, ⟨HcR0, HcR1, HcX, HcB⟩, Hx, Hw,
    ⟨⟨Hr0, Hr1⟩, ⟨Hs0, Hs1⟩, Ho, Hbuf, Hw00, Hw01, Hw10, Hw11⟩, Hz, HO⟩ Hk
  iapply (seg_shake m K c 1 rfl rfl rfl (O₀ c) (O₁ c) (Ow c 0 0) rfl rfl (mayWait_bar c)) $$ [HaBar HcB HtB0 HtB1 Hr0 Hr1 HO]
  · isplitr; · iexact Hctx
    isplitl [HaBar]; · iexact HaBar
    isplitl [HcB]; · iexact HcB
    isplitl [HtB0]; · iexact HtB0
    isplitl [HtB1]; · iexact HtB1
    isplitl [Hr0]; · iapply (bar_own m c 0); iexact Hr0
    isplitl [Hr1]; · iapply (bar_own m c 1); iexact Hr1
    iexact HO
  iintro ⟨HaBar, Hr0, Hr1, HO⟩
  ihave Hd0 := (dir_start c 0) $$ [HaS0 HaR0 HcR0 HtS0 HtR0 Hr0 Hs0]
  · isplitl [HaS0]; · iexact HaS0
    isplitl [HaR0]; · iexact HaR0
    isplitl [HcR0]; · iexact HcR0
    isplitl [HtS0]; · iexact HtS0
    isplitl [HtR0]; · iexact HtR0
    isplitl [Hr0]; · iapply (show payOf m c 0 (.inr 1) ⊢ barPay c 0 from .rfl); iexact Hr0
    iexact Hs0
  ihave Hd1 := (dir_start c 1) $$ [HaS1 HaR1 HcR1 HtS1 HtR1 Hr1 Hs1]
  · isplitl [HaS1]; · iexact HaS1
    isplitl [HaR1]; · iexact HaR1
    isplitl [HcR1]; · iexact HcR1
    isplitl [HtS1]; · iexact HtS1
    isplitl [HtR1]; · iexact HtR1
    isplitl [Hr1]; · iapply (show payOf m c 1 (.inr 1) ⊢ barPay c 1 from .rfl); iexact Hr1
    iexact Hs1
  iapply (seg_w m c 0 0 (oA := ![0, 0]) (oB := ![1024, 0]) rfl rfl (oC := ![0, 0, 0, 0]) (oD := ![0, 1, 0, 0]) rfl rfl) $$ [Hw Hw00 Hw01 Hz HO]
  · isplitr; · iapply (ctx_lev m K); iexact Hctx
    isplitl [Hw]; · iexact Hw
    isplitl [Hw00]; · iexact Hw00
    isplitl [Hw01]; · iexact Hw01
    isplitl [Hz]; · iexact Hz
    iexact HO
  iintro ⟨Hw, Hp0, Hz, HO⟩
  rw [WP_bind]
  iapply (Scf.wp_for_bind frame (wpE (defs₀ (F := F)) 𝒱₀ (c : Thread nD τ) none) Set.univ k0_t1_loop.lb k0_t1_loop.ub k0_t1_loop.st k0_t1_ok _ _
      (fun i _ => iprop(ctx m K ∗ tripState m c i)) ?trip) $$ [Hd0 Hd1 Ho Hx Hw Hbuf Hp0 Hw10 Hw11 Hz HO]
  case trip =>
    intro k u
    cases u
    iintro ⟨#Hctx, H⟩
    iapply (wp_wand_r Idealize.ShloMosaic.frame (wpE (defs₀ (F := F)) 𝒱₀ (c : Thread nD τ) none) Set.univ (Q := fun _ => tripState m c (k.val + 1)))
    isplitl [H]
    · iapply (trip m K c _ _ _ k)
      isplitr; · iexact Hctx
      iexact H
    · iintro %a H
      isplitr; · iexact Hctx
      iexact H
  · isplitr; · iexact Hctx
    iapply (trip_first m c)
    isplitl [Hd0]; · iexact Hd0
    isplitl [Hd1]; · iexact Hd1
    isplitl [Ho]; · iexact Ho
    isplitl [Hx]; · iexact Hx
    isplitl [Hw]; · iexact Hw
    isplitl [Hbuf]; · iexact Hbuf
    isplitl [Hp0]; · iexact Hp0
    isplitl [Hw10 Hw11]
    · isplitl [Hw10]; · iexact Hw10
      iexact Hw11
    isplitl [Hz]; · iexact Hz
    iexact HO
  iintro %u ⟨-, H⟩
  ihave H' := (trip_last m c) $$ H
  icases H' with ⟨Hd0, Hd1, Ho, Hx, Hw, Hbuf, Hpl, Hz, HO⟩
  ihave He0 := (dir_end c 0) $$ Hd0
  ihave He1 := (dir_end c 1) $$ Hd1
  icases He0 with ⟨HaS0, HaR0⟩
  icases He1 with ⟨HaS1, HaR1⟩
  iapply (seg_shake m K c 0 rfl rfl rfl (Osec c) (tallyAt (kcell (sour 1 c, .inr 0)) () 1) 0 rfl (zero_add _).symm
    (by rw [MayWait_zero]; iintro -; iempintro)) $$ [HaSec HcX HtX0 HtX1 HO]
  · isplitr; · iexact Hctx
    isplitl [HaSec]; · iexact HaSec
    isplitl [HcX]; · iexact HcX
    isplitl [HtX0]; · iexact HtX0
    isplitl [HtX1]; · iexact HtX1
    isplitr; · iapply (show iprop(emp) ⊢ payOf m (sour 0 c) 0 (.inr 0) from .rfl); iempintro
    isplitr; · iapply (show iprop(emp) ⊢ payOf m (sour 1 c) 1 (.inr 0) from .rfl); iempintro
    iexact HO
  iintro ⟨HaSec, -, -, HO⟩
  ihave Hall := (Entails.of_eq (bigSep_ck (fun k => atPos ER (kcell (c, k)) 1 ∅ 0)).symm) $$ [HaS0 HaS1 HaR0 HaR1 HaSec HaBar]
  · isplitl [HaS0 HaS1 HaR0 HaR1]
    · isplitl [HaS0 HaS1]
      · isplitl [HaS0]; · iexact HaS0
        iexact HaS1
      · isplitl [HaR0]; · iexact HaR0
        iexact HaR1
    · isplitl [HaSec]; · iexact HaSec
      iexact HaBar
  imod (close_all m K c) $$ [Hall] with Hzero
  · isplitr; · iexact Hctx
    iexact Hall
  iapply (WP_ret c _ _)
  iapply (WP_ret c _ _)
  iapply Hk
  unfold bodyPost
  isplitl [Hx]; · iexact Hx
  isplitl [Hw]; · iexact Hw
  isplitl [Ho]; · iexact Ho
  isplitl [Hbuf]; · iexact Hbuf
  isplitl [Hpl]; · iexact Hpl
  isplitl [Hzero]; · iexact Hzero
  isplitl [Hz]; · iexact Hz
  iexact HO

end Cert.TwoRing

end
-- ==== Proof.Mem.lean ====
/-
The buffers of a core cut into the slots the kernel addresses, put together again, and read from a final state.
-/
module

public import proofs.«01_k».proof.Proof.Body
public import Idealize.ShloMosaic.Lib.Ring

@[expose] public section

noncomputable section

namespace Cert.TwoRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-- Pairwise disjoint sets of a buffer held whole are held one by one. -/
theorem cut {ℓ : Loc nD τ sig} {B : Type} [Fintype B] [DecidableEq B] (I : B → Finset (Idx ℓ))
    (hd : ∀ b b', b ≠ b' → Disjoint (I b) (I b')) (f : Buf (Elt F) ℓ) :
    (ℓ ↦{fullShare} f : sProp 𝕄) ⊢ bigSep Finset.univ fun b => ℓ ↦[I b]{fullShare} f := by
  refine (pointsTo_split_subset (Finset.subset_univ (Finset.univ.biUnion I))).1.trans ?_
  rw [Ring.pointsTo_sub_blocks I hd _ rfl]
  exact sep_elim_left

/-- A family over pairs with first member of two, row by row. -/
theorem rows {n : ℕ} (Φ : Fin 2 × Fin n → sProp 𝕄) : bigSep Finset.univ Φ
    = iprop((bigSep Finset.univ fun b => Φ (0, b)) ∗ bigSep Finset.univ fun b => Φ (1, b)) := by
  rw [bigSep_univ_prod, bigSep_two]

/-- A memref's elements held are the memref at some contents; -/
theorem some_of {sp : Space} {s : Shape} {e : EltTy} (M : Memref sig .tc sp s e) (f : Buf (Elt F) (M.view.loc (c : Thread nD τ))) :
    (M.view.loc (c : Thread nD τ) ↦[M.view.set]{fullShare} f : sProp 𝕄) ⊢ some' c M := by
  iintro H
  iexists _
  iapply (owns_intro (c : Thread nD τ) M fullShare f) $$ H
/-- and the other way. -/
theorem of_some {sp : Space} {s : Shape} {e : EltTy} (M : Memref sig .tc sp s e) :
    (some' c M : sProp 𝕄) ⊢ iprop(∃ f : Buf (Elt F) (M.view.loc (c : Thread nD τ)), M.view.loc (c : Thread nD τ) ↦[M.view.set]{fullShare} f) := by
  iintro ⟨%X, H⟩
  ihave H' := (show owns (c : Thread nD τ) M fullShare X
    ⊢ iprop(∃ f, ⌜M.view.read (Elt F) f = X⌝ ∗ (M.view.loc (c : Thread nD τ) ↦[M.view.set]{fullShare} f)) from .rfl) $$ H
  icases H' with ⟨%f, -, H⟩
  iexists f; iexact H

/-- The receive buffer as its slots. -/
theorem cut_r (f : Buf (Elt F) ((c : Thread nD τ).loc main_v1_1)) : (((c : Thread nD τ).loc main_v1_1) ↦{fullShare} f : sProp 𝕄)
    ⊢ iprop((bigSep Finset.univ fun st => some' c (rSlot 0 st)) ∗ bigSep Finset.univ fun st => some' c (rSlot 1 st)) := by
  refine (cut (fun p : Fin 2 × Fin 12 => (rSlot p.1 p.2).view.set) rSlot_disjoint f).trans ?_
  rw [← rows (fun p : Fin 2 × Fin 12 => some' (F := F) c (rSlot p.1 p.2))]
  exact bigSep_mono fun p _ => some_of c (rSlot p.1 p.2) f

/-- The send buffer as its slots. -/
theorem cut_s (f : Buf (Elt F) ((c : Thread nD τ).loc main_v1_2)) : (((c : Thread nD τ).loc main_v1_2) ↦{fullShare} f : sProp 𝕄)
    ⊢ iprop((bigSep Finset.univ fun b => some' c (sSlot 0 b)) ∗ bigSep Finset.univ fun b => some' c (sSlot 1 b)) := by
  refine (cut (fun p : Fin 2 × Fin 4 => (sSlot p.1 p.2).view.set) sSlot_disjoint f).trans ?_
  rw [← rows (fun p : Fin 2 × Fin 4 => some' (F := F) c (sSlot p.1 p.2))]
  exact bigSep_mono fun p _ => some_of c (sSlot p.1 p.2) f

theorem outAt_zero (d : Fin 2) (b : Fin 4) : outAt m c d 0 b = some' c (oSlot d b) := by
  unfold outAt; rw [if_neg (by omega)]
theorem outAt_end (d : Fin 2) (b : Fin 4) : outAt m c d 16 b = owns (c : Thread nD τ) (oSlot d b) fullShare (final m d c b) := by
  unfold outAt; rw [if_pos (by omega)]

/-- The result as its blocks. -/
theorem cut_o (f : Buf (Elt F) ((c : Thread nD τ).loc main_v1_0)) : (((c : Thread nD τ).loc main_v1_0) ↦{fullShare} f : sProp 𝕄)
    ⊢ iprop(outs m c 0 0 ∗ outs m c 1 0) := by
  refine (cut (fun p : Fin 2 × Fin 4 => (oSlot p.1 p.2).view.set) oSlot_disjoint f).trans ?_
  unfold outs
  rw [← rows (fun p : Fin 2 × Fin 4 => outAt m c p.1 0 p.2)]
  exact bigSep_mono fun p _ => by rw [outAt_zero]; exact some_of c (oSlot p.1 p.2) f

theorem bigSep_quad (Φ : Fin 2 × Fin 2 → sProp 𝕄) : bigSep Finset.univ Φ = iprop((Φ (0, 0) ∗ Φ (0, 1)) ∗ (Φ (1, 0) ∗ Φ (1, 1))) := by
  rw [rows, bigSep_two, bigSep_two]

/-- The weights' buffer as its planes. -/
theorem cut_w (f : Buf (Elt F) ((c : Thread nD τ).loc cc0_scratch4)) : (((c : Thread nD τ).loc cc0_scratch4) ↦{fullShare} f : sProp 𝕄)
    ⊢ iprop((some' c (wSlot 0 0) ∗ some' c (wSlot 0 1)) ∗ (some' c (wSlot 1 0) ∗ some' c (wSlot 1 1))) := by
  refine (cut (fun p : Fin 2 × Fin 2 => (wSlot p.1 p.2).view.set) wSlot_disjoint f).trans ?_
  rw [← bigSep_quad (fun p : Fin 2 × Fin 2 => some' (F := F) c (wSlot p.1 p.2))]
  exact bigSep_mono fun p _ => some_of c (wSlot p.1 p.2) f

theorem wSlot_cover : Finset.biUnion (β := S2x2x1024x2048.Idx) Finset.univ (fun p : Fin 2 × Fin 2 => (wSlot p.1 p.2).view.set) = Finset.univ := by
  rw [← wPlane_cover]
  exact congrArg (Finset.univ.biUnion ·) (funext fun p => wSlot_set p)

/-- Its planes as the weights' buffer. -/
theorem join_w (f₀ : Buf (Elt F) ((c : Thread nD τ).loc cc0_scratch4)) :
    iprop((some' c (wSlot 0 0) ∗ some' c (wSlot 0 1)) ∗ (some' c (wSlot 1 0) ∗ some' c (wSlot 1 1)))
      ⊢ (iprop(∃ f : Buf (Elt F) ((c : Thread nD τ).loc cc0_scratch4), ((c : Thread nD τ).loc cc0_scratch4) ↦{fullShare} f) : sProp 𝕄) := by
  rw [← bigSep_quad (fun p : Fin 2 × Fin 2 => some' (F := F) c (wSlot p.1 p.2))]
  exact BIBase.Entails.trans (bigSep_mono fun p _ => of_some c (wSlot p.1 p.2))
    (Ring.pointsTo_blocks_join_exists (ℓ := (c : Thread nD τ).loc cc0_scratch4) (fun p : Fin 2 × Fin 2 => (wSlot p.1 p.2).view.set) wSlot_disjoint wSlot_cover f₀)

/-- A buffer held whole is its whole memref owned. -/
theorem some_of_whole (b : Ref sig .tc) (f : Buf (Elt F) ((c : Thread nD τ).loc b)) :
    (((c : Thread nD τ).loc b) ↦{fullShare} f : sProp 𝕄) ⊢ some' c (Memref.whole b) := by
  iintro H; iexists f; rw [owns_whole]; iexact H
theorem whole_of_some (b : Ref sig .tc) :
    (some' c (Memref.whole b) : sProp 𝕄) ⊢ iprop(∃ f : Buf (Elt F) ((c : Thread nD τ).loc b), ((c : Thread nD τ).loc b) ↦{fullShare} f) := by
  iintro ⟨%X, H⟩; iexists X; rw [← owns_whole]; iexact H

/-! ## Reading a final state -/

/-- An owned memref reads, in the memory of the state, as it is owned. -/
theorem owns_agree {sp : Space} {s : Shape} {e : EltTy} (M : Memref sig .tc sp s e) (X : s.Idx → Elt F e) (s' : Phys nD τ sig (Elt F)) :
    iprop(owns (c : Thread nD τ) M fullShare X ∗ SI s')
      ⊢ (iprop(⌜M.view.read (Elt F) (s'.mem.mem (M.view.loc (c : Thread nD τ))) = X⌝ ∗ SI s') : sProp 𝕄) := by
  iintro ⟨H, HSI⟩
  ihave H' := (show owns (c : Thread nD τ) M fullShare X
    ⊢ iprop(∃ f, ⌜M.view.read (Elt F) f = X⌝ ∗ (M.view.loc (c : Thread nD τ) ↦[M.view.set]{fullShare} f)) from .rfl) $$ H
  icases H' with ⟨%f, %hf, H⟩
  icombine HSI H gives %h
  isplitr
  · ipureintro
    rw [← hf]
    exact View.read_congr h
  · iexact HSI

/-- The same of a finite family. -/
theorem owns_agree_all {I : Type} [DecidableEq I] (S : Finset I) {sp : Space} {s : Shape} {e : EltTy} (M : I → Memref sig .tc sp s e) (X : I → s.Idx → Elt F e)
    (s' : Phys nD τ sig (Elt F)) :
    iprop((bigSep S fun i => owns (c : Thread nD τ) (M i) fullShare (X i)) ∗ SI s')
      ⊢ (iprop(⌜∀ i ∈ S, (M i).view.read (Elt F) (s'.mem.mem ((M i).view.loc (c : Thread nD τ))) = X i⌝ ∗ SI s') : sProp 𝕄) := by
  induction S using Finset.induction_on with
  | empty =>
    iintro ⟨-, HSI⟩
    isplitr; · ipureintro; exact fun i hi => absurd hi (Finset.notMem_empty i)
    iexact HSI
  | insert i S hi ih =>
    rw [bigSep_insert hi]
    refine (show iprop((owns (c : Thread nD τ) (M i) fullShare (X i) ∗ bigSep S fun i => owns (c : Thread nD τ) (M i) fullShare (X i)) ∗ SI s') ⊢ _ from ?_)
    iintro ⟨⟨Hi, HS⟩, HSI⟩
    ihave H := ih $$ [HS HSI]
    · isplitl [HS] <;> iassumption
    icases H with ⟨%hS, HSI⟩
    ihave H := (owns_agree c (M i) (X i) s') $$ [Hi HSI]
    · isplitl [Hi] <;> iassumption
    icases H with ⟨%h, HSI⟩
    isplitr
    · ipureintro
      intro j hj
      rcases Finset.mem_insert.mp hj with rfl | hj
      exacts [h, hS j hj]
    · iexact HSI

/-- A buffer held whole reads, in the memory of the state, as it is held. -/
theorem whole_agree {ℓ : Loc nD τ sig} (f : Buf (Elt F) ℓ) (s' : Phys nD τ sig (Elt F)) :
    iprop((ℓ ↦{fullShare} f) ∗ SI s') ⊢ (iprop(⌜s'.mem.mem ℓ = f⌝ ∗ SI s') : sProp 𝕄) := by
  iintro ⟨H, HSI⟩
  icombine HSI H gives %h
  isplitr
  · ipureintro; exact Buf.eq_of_forall_mem_univ h
  · iexact HSI

/-- The blocks of the result in a final state. -/
theorem outs_agree (d : Fin 2) (s' : Phys nD τ sig (Elt F)) :
    iprop(outs m c d 16 ∗ SI s')
      ⊢ iprop(⌜∀ b, (oSlot d b).view.read (Elt F) (s'.mem.mem ((c : Thread nD τ).loc main_v1_0)) = final m d c b⌝ ∗ SI s') := by
  unfold outs
  rw [bigSep_congr fun b _ => outAt_end m c d b]
  iintro H
  ihave H' := (owns_agree_all c Finset.univ (oSlot d) (final m d c) s') $$ H
  icases H' with ⟨%h, HSI⟩
  isplitr
  · ipureintro; exact fun b => h b (Finset.mem_univ b)
  · iexact HSI

end Cert.TwoRing

end
-- ==== Proof.Ghost.lean ====
/-
The ghost state the launch deals the cores, and the credit of what they owe.
-/
module

public import proofs.«01_k».proof.Proof.Body

@[expose] public section

noncomputable section

namespace Cert.TwoRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The cells and tokens minted -/

/-- The kernel's own semaphores: sends, receives, then the second handshake's and the local copies'. -/
abbrev osem : CK → SemLoc sig
  | .inl k => csem (.inl k)
  | .inr 0 => .reg secS
  | .inr 1 => .dma locS

theorem ownSemFacts : Pipeline.OwnSemFacts cfg0.spec osem where
  isScoped := by decide +kernel
  inj := by decide +kernel
  disj := fun _ w => w.elim0

def ringCells : Finset (GSem nD τ sig) := Finset.univ.map ⟨kcell, kcell_injective⟩

/-- The duties of one core's cells. -/
abbrev TK : Type := ((Fin 2 × Fin 12) ⊕ (Fin 2 × Fin 12)) ⊕ (Fin 2 × Fin 2)
def tkCell : TK → CK
  | .inl k => .inl k
  | .inr p => .inr p.1
def tkDuty : TK → Fin 2
  | .inl _ => 0
  | .inr p => p.2
theorem tk_injective : ∀ t t' : TK, tkCell t = tkCell t' → tkDuty t = tkDuty t' → t = t' := by
  rintro (k | ⟨j, d⟩) (k' | ⟨j', d'⟩) h h'
  · exact congrArg Sum.inl (Sum.inl.inj h)
  · cases h
  · cases h
  · have h1 : j = j' := Sum.inr.inj h
    have h2 : d = d' := h'
    rw [h1, h2]

/-- A token as minted: its cell, round 0 and its duty. -/
abbrev tokOf (x : Dev nD × TK) : GSem nD τ sig × ℕ × Fin 2 := (kcell (x.1, tkCell x.2), 0, tkDuty x.2)
theorem tokOf_injective : Function.Injective (tokOf : Dev nD × TK → GSem nD τ sig × ℕ × Fin 2) := by
  rintro ⟨c, t⟩ ⟨c', t'⟩ h
  have h1 := kcell_injective (congrArg Prod.fst h)
  have h2 : tkDuty t = tkDuty t' := congrArg (fun x : GSem nD τ sig × ℕ × Fin 2 => x.2.2) h
  have hc : c = c' := congrArg Prod.fst h1
  have ht : t = t' := tk_injective t t' (congrArg Prod.snd h1) h2
  rw [hc, ht]
def ringToks : Finset (GSem nD τ sig × ℕ × Fin 2) := Finset.univ.map ⟨tokOf, tokOf_injective⟩

/-- The ghost element at launch. -/
def u₀ : UU :=
  (initOf (Pipeline.cells cfgs cellOf_inj) (Pipeline.launchToks cfgs cellOf_inj), (initOf ringCells ringToks, (1 : Counters)))

theorem u₀_split : (ownU u₀ : sProp 𝕄)
    ⊢ iprop(BI.own (EP (initOf (Pipeline.cells cfgs cellOf_inj) (Pipeline.launchToks cfgs cellOf_inj))) ∗ BI.own (ER (initOf ringCells ringToks))) := by
  unfold u₀
  exact BI.own_op_elim ((uEmb (nD := nD) (sig := sig) (Ix := Unit) (Val := Elt F) (Name := ℕ) (U := UU) (Lvl := ℕ)).toEmb.op_of_mem
    (Prod.mk_mem_op (URA.mem_op_one _) (URA.mem_one_op (initOf ringCells ringToks, (1 : Counters)))))

/-- The tokens of the duties of core `c`'s own cells. -/
def toks (c : Dev nD) : sProp 𝕄 := bigSep Finset.univ fun t : TK => dutyTok ER (kcell (c, tkCell t)) 0 (tkDuty t)

/-- What the launch element deals a core. -/
def G (c : Dev nD) : sProp 𝕄 :=
  iprop((bigSep Finset.univ fun k : CK => roundState ER (ringRd m) (kcell (c, k)) 0)
    ∗ (bigSep Finset.univ fun k : CK => iprop(atPos ER (kcell (c, k)) 0 ∅ 0 ∗ reached ER (kcell (c, k)) 0)) ∗ toks c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CK => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]; rfl
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores -/

theorem unscopedSems0_eq (c : Dev nD) : (unscopedSems0 c : sProp 𝕄) = semVal (kcell (c, .inr 1)) 0 := by
  unfold unscopedSems0; rw [bigSep_eq_bigSepL_of_eq [SemLoc.reg barS] (by decide +kernel) (by decide +kernel)]; rfl

theorem own_ck (c : Dev nD) : (Pipeline.ownSems0 (Ix := Unit) (Name := ℕ) (U := UU) (Lvl := ℕ) (Val := Elt F) (τ := τ) osem c : sProp 𝕄)
    = iprop((bigSep Finset.univ fun k => semVal (kcell (c, .inl k)) 0) ∗ semVal (kcell (c, .inr 0)) 0 ∗ locZ c) := by
  unfold Pipeline.ownSems0; rw [bigSep_univ_sum, bigSep_two]; rfl

theorem sems_ck (c : Dev nD) : (bigSep Finset.univ fun k : CK => semVal (kcell (c, k)) 0 : sProp 𝕄)
    = iprop((bigSep Finset.univ fun k => semVal (kcell (c, .inl k)) 0) ∗ semVal (kcell (c, .inr 0)) 0 ∗ semVal (kcell (c, .inr 1)) 0) := by
  rw [bigSep_univ_sum, bigSep_two]; rfl

/-- The semaphores handed at launch are the protocol's cells and the local copies' one, -/
theorem sems_in (c : Dev nD) :
    iprop(Pipeline.ownSems0 (Ix := Unit) (Name := ℕ) (U := UU) (Lvl := ℕ) (Val := Elt F) (τ := τ) osem c ∗ unscopedSems0 c)
      ⊢ (iprop((bigSep Finset.univ fun k : CK => semVal (kcell (c, k)) 0) ∗ locZ c) : sProp 𝕄) := by
  rw [own_ck, unscopedSems0_eq, sems_ck]
  iintro ⟨⟨H, HS, HL⟩, HB⟩
  isplitr [HL]
  · isplitl [H]; · iexact H
    isplitl [HS]; · iexact HS
    iexact HB
  iexact HL

/-- and back. -/
theorem sems_out (c : Dev nD) :
    (iprop((bigSep Finset.univ fun k : CK => semVal (kcell (c, k)) 0) ∗ locZ c) : sProp 𝕄)
      ⊢ iprop(unscopedSems0 c ∗ Pipeline.ownSems0 (Ix := Unit) (Name := ℕ) (U := UU) (Lvl := ℕ) (Val := Elt F) (τ := τ) osem c) := by
  rw [own_ck, unscopedSems0_eq, sems_ck]
  iintro ⟨⟨H, HS, HB⟩, HL⟩
  isplitl [HB]; · iexact HB
  isplitl [H]; · iexact H
  isplitl [HS]; · iexact HS
  iexact HL

/-! ## The invariants, at once -/

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0)) ∗ (toks c ∗ locZ c)) := by
  unfold G
  iintro ⟨Hos, Hus, Hst, Hat, Htok⟩
  ihave Hv := (sems_in (F := F) c) $$ [Hos Hus]
  · isplitl [Hos] <;> iassumption
  icases Hv with ⟨Hv, HL⟩
  imod (show iprop((bigSep Finset.univ fun k : CK => semVal (kcell (c, k)) 0) ∗ bigSep Finset.univ fun k : CK => roundState ER (ringRd m) (kcell (c, k)) 0)
      ⊢ (|={Set.univ}=> bigSep Finset.univ fun k => iprop(∃ κ : ℕ, cellInv ER (ringRd m) κ (kcell (c, k))) : sProp 𝕄) from by
        rw [← bigSep_sep']
        exact (bigSep_mono fun k _ => (Rounds.body_intro ER (ringRd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

/-- Every core's invariants, and that every cell is at its first round. -/
def records (K : Dev nD × CK → ℕ) : sProp 𝕄 :=
  iprop((bigSep Finset.univ fun ck : Dev nD × CK => cellInv ER (ringRd m) (K ck) (kcell ck))
    ∗ bigSep Finset.univ fun ck : Dev nD × CK => reached ER (kcell ck) 0)

instance records_persistent (K : Dev nD × CK → ℕ) : BI.Persistent (records (F := F) m K) := by unfold records; infer_instance

/-- What the global step gives a core. -/
def G' (c : Dev nD) : sProp 𝕄 := iprop(∃ K, records m K ∗ linear c ∗ locZ c)

theorem toks_eq (c : Dev nD) : (toks c : sProp 𝕄)
    = iprop((((bigSep Finset.univ fun st => dutyTok ER (kSnd c 0 st) 0 0) ∗ (bigSep Finset.univ fun st => dutyTok ER (kSnd c 1 st) 0 0))
        ∗ ((bigSep Finset.univ fun st => dutyTok ER (kRcv c 0 st) 0 0) ∗ (bigSep Finset.univ fun st => dutyTok ER (kRcv c 1 st) 0 0)))
      ∗ ((dutyTok ER (kcell (c, .inr 0)) 0 0 ∗ dutyTok ER (kcell (c, .inr 0)) 0 1)
        ∗ (dutyTok ER (kcell (c, .inr 1)) 0 0 ∗ dutyTok ER (kcell (c, .inr 1)) 0 1))) := by
  unfold toks
  rw [bigSep_univ_sum, bigSep_univ_sum, bigSep_univ_prod, bigSep_univ_prod, bigSep_univ_prod, bigSep_two, bigSep_two, bigSep_two, bigSep_two, bigSep_two]
  rfl

/-- A family over the cores, taken one core along direction `d`; -/
theorem along (d : Fin 2) (Φ : Dev nD → sProp 𝕄) : bigSep Finset.univ Φ = bigSep Finset.univ fun c => Φ (dest d c) := bigSep_univ_equiv (ring d) Φ
/-- and against it. -/
theorem against (d : Fin 2) (Φ : Dev nD → sProp 𝕄) : bigSep Finset.univ Φ = bigSep Finset.univ fun c => Φ (sour d c) := bigSep_univ_equiv (ring d).symm Φ

/-- The tokens dealt around the rings. -/
theorem toks_around : (bigSep Finset.univ fun c : Dev nD => (toks c : sProp 𝕄)) ⊢ bigSep Finset.univ fun c : Dev nD => payToks c := by
  unfold payToks
  rw [bigSep_congr fun c _ => toks_eq c]
  simp only [bigSep_sep']
  rw [along 0 (fun c : Dev nD => bigSep Finset.univ fun st => (dutyTok ER (kRcv c 0 st) 0 0 : sProp 𝕄)),
    along 1 (fun c : Dev nD => bigSep Finset.univ fun st => (dutyTok ER (kRcv c 1 st) 0 0 : sProp 𝕄)),
    against 0 (fun c : Dev nD => (dutyTok ER (kcell (c, .inr 0)) 0 0 : sProp 𝕄)), against 1 (fun c : Dev nD => (dutyTok ER (kcell (c, .inr 0)) 0 1 : sProp 𝕄)),
    against 0 (fun c : Dev nD => (dutyTok ER (kcell (c, .inr 1)) 0 0 : sProp 𝕄)), against 1 (fun c : Dev nD => (dutyTok ER (kcell (c, .inr 1)) 0 1 : sProp 𝕄))]
  iintro ⟨⟨⟨HS0, HS1⟩, HR0, HR1⟩, ⟨HC0, HC1⟩, HB0, HB1⟩
  isplitl [HS0 HS1 HR0 HR1]
  · isplitl [HS0]; · iexact HS0
    isplitl [HS1]; · iexact HS1
    isplitl [HR0]; · iexact HR0
    iexact HR1
  isplitl [HC0 HC1]
  · isplitl [HC0]; · iexact HC0
    iexact HC1
  isplitl [HB0]; · iexact HB0
  iexact HB1

theorem ghost_intro (K : Dev nD × CK → ℕ) (c : Dev nD) : iprop(records m K ∗ (linear c ∗ locZ c)) ⊢ G' m c := by
  unfold G'
  iintro ⟨HR, HL, HZ⟩
  iexists K
  isplitl [HR]; · iexact HR
  isplitl [HL] <;> iassumption

theorem regroup :
    (bigSep Finset.univ fun c : Dev nD => iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0)) ∗ (toks c ∗ locZ c)) : sProp 𝕄)
      ⊢ bigSep Finset.univ (G' m) := by
  rw [bigSep_sep', bigSep_sep', bigSep_sep' (Finset.univ (α := Dev nD)) toks, ← bigSep_univ_prod (fun ck : Dev nD × CK => iprop(∃ κ : ℕ, cellInv ER (ringRd m) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok, HZ⟩
  ihave HK := (BI.bigSep_exists_pi Finset.univ (fun (ck : Dev nD × CK) (κ : ℕ) => (cellInv ER (ringRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · unfold linear
    simp only [bigSep_sep']
    isplitl [Hat Htk]
    · isplitl [Hat]; · iexact Hat
      iexact Htk
    iexact HZ

/-- The global step. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem tally_cell (a b : Dev nD) (k k' : CK) (n : ℕ) :
    (tallyAt (kcell (a, k)) () n : CellTallies nD τ sig Unit) (kcell (b, k')) () = if a = b ∧ k = k' then n else 0 := by
  rw [tallyAt_apply]
  by_cases h : a = b ∧ k = k'
  · rw [if_pos ⟨by rw [h.1, h.2], rfl⟩, if_pos h]
  · rw [if_neg h, if_neg fun h' => h (by have := kcell_injective h'.1; exact ⟨(congrArg Prod.fst this).symm, (congrArg Prod.snd this).symm⟩)]

theorem odir_cell (x c : Dev nD) (d : Fin 2) (k : CK) :
    Odir x d 0 (kcell (c, k)) () = ∑ st : Fin 12, if dest d x = c ∧ (.inl (.inr (d, st)) : CK) = k then N else 0 := by
  unfold Odir
  rw [Finset.sum_apply, Finsupp.finset_sum_apply]
  exact Finset.sum_congr rfl fun st _ => by rw [if_pos (Nat.zero_le _)]; exact tally_cell (dest d x) c (.inl (.inr (d, st))) k N

theorem owed_cell (x c : Dev nD) (k : CK) : O₀ x (kcell (c, k)) ()
    = (((∑ st : Fin 12, if dest 0 x = c ∧ (.inl (.inr (0, st)) : CK) = k then N else 0) + ((∑ st : Fin 12, if dest 1 x = c ∧ (.inl (.inr (1, st)) : CK) = k then N else 0)
        + ((if sour 1 x = c ∧ (.inr 0 : CK) = k then 1 else 0) + (if sour 0 x = c ∧ (.inr 0 : CK) = k then 1 else 0))))
      + (if sour 1 x = c ∧ (.inr 1 : CK) = k then 1 else 0)) + (if sour 0 x = c ∧ (.inr 1 : CK) = k then 1 else 0) := by
  unfold O₀ O₁ Ow Osec
  simp only [Pi.add_apply, Finsupp.add_apply]
  rw [odir_cell, odir_cell]
  rw [show (tallyAt (kSec (sour 1 x)) () 1 : CellTallies nD τ sig Unit) (kcell (c, k)) () = _ from tally_cell (sour 1 x) c (.inr 0) k 1,
    show (tallyAt (kSec (sour 0 x)) () 1 : CellTallies nD τ sig Unit) (kcell (c, k)) () = _ from tally_cell (sour 0 x) c (.inr 0) k 1,
    show (tallyAt (kBar (sour 1 x)) () 1 : CellTallies nD τ sig Unit) (kcell (c, k)) () = _ from tally_cell (sour 1 x) c (.inr 1) k 1,
    show (tallyAt (kBar (sour 0 x)) () 1 : CellTallies nD τ sig Unit) (kcell (c, k)) () = _ from tally_cell (sour 0 x) c (.inr 1) k 1]

/-- What the cores owe a cell together. -/
def due : CK → ℕ
  | .inl (.inl _) => 0
  | .inl (.inr _) => N
  | .inr _ => 2

/-- A receive cell of direction `d` is owed by the one core that sends to it. -/
theorem count_rcv (d : Fin 2) (c : Dev nD) (k : CK) : (∑ x : Dev nD, ∑ st : Fin 12, if dest d x = c ∧ (.inl (.inr (d, st)) : CK) = k then 1 else 0)
    = match k with | .inl (.inr p) => if p.1 = d then 1 else 0 | _ => 0 := by
  revert d c k; decide +kernel
theorem count_shake (d j : Fin 2) (c : Dev nD) (k : CK) : (∑ x : Dev nD, if sour d x = c ∧ (.inr j : CK) = k then 1 else 0)
    = if (.inr j : CK) = k then 1 else 0 := by
  revert d j c k; decide +kernel

theorem count_credit (d : Fin 2) (c : Dev nD) (k : CK) : (∑ x : Dev nD, ∑ st : Fin 12, if dest d x = c ∧ (.inl (.inr (d, st)) : CK) = k then N else 0)
    = (match k with | .inl (.inr p) => if p.1 = d then 1 else 0 | _ => 0) * N := by
  rw [← count_rcv d c k, Finset.sum_mul]
  refine Finset.sum_congr rfl fun x _ => ?_
  rw [Finset.sum_mul]
  exact Finset.sum_congr rfl fun st _ => by rw [ite_mul, one_mul, zero_mul]

theorem owed_total (c : Dev nD) (k : CK) : (∑ x : Dev nD, O₀ x (kcell (c, k)) ()) = due k := by
  rw [Finset.sum_congr rfl fun x _ => owed_cell x c k]
  simp only [Finset.sum_add_distrib]
  rw [count_credit, count_credit, count_shake, count_shake, count_shake, count_shake]
  rcases k with (p | ⟨d, st⟩) | j
  · simp [due]
  · fin_cases d <;> simp [due]
  · fin_cases j <;> simp [due]

theorem launch_cell (c : Dev nD) (k : CK) :
    tallyOn (kcell (c, k)) (launchCredit (Pipeline.owing O₀) 0 (kcell (c, k))) = (tallyAt (kcell (c, k)) () (due k) : CellTallies nD τ sig Unit) := by
  unfold tallyAt; refine congrArg _ (Finsupp.ext fun u => ?_); cases u
  rw [Pipeline.launchCredit_owing, Finsupp.single_eq_same, owed_total]

theorem creds (c : Dev nD) : (Pipeline.launchCred O₀ c : sProp 𝕄) ⊢ credsOf c := by
  have h : (Pipeline.launchCred O₀ c : sProp 𝕄) ⊢ bigSep Finset.univ fun k : CK => cred (tallyAt (kcell (c, k)) () (due k)) := by
    unfold Pipeline.launchCred
    refine (bigSep_subset (Finset.subset_univ (Finset.univ.map ⟨csem, csem_injective⟩))).trans ?_
    rw [bigSep_map]
    exact bigSep_mono fun k _ => Entails.of_eq (congrArg cred (launch_cell c k))
  refine h.trans ?_
  rw [bigSep_ck]
  unfold credsOf
  iintro ⟨⟨-, H0, H1⟩, HS, HB⟩
  isplitl [H0]; · iexact H0
  isplitl [H1]; · iexact H1
  isplitl [HS]; · iexact HS
  iexact HB

end Cert.TwoRing

end
-- ==== Proof.Run.lean ====
/-
The run of the two-way ring kernel on four devices, from any memory with zero counters: what its final states hold.
-/
module

public import proofs.«01_k».proof.Proof.Mem
public import proofs.«01_k».proof.Proof.Ghost
public import Idealize.ShloMosaic.Adequacy
public import Idealize.ShloMosaic.Init
public import Idealize.ShloMosaic.Lib.Pipeline.CollectiveSegs

@[expose] public section

noncomputable section

namespace Cert.TwoRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat Cfg Window BodyObligation BodyObligationLoose cellOf)

variable (m : (ℓ : Loc nD τ sig) → Buf (Elt F) ℓ) (ρ : Dev nD → PrngReg)

/-! ## What the region holds -/

/-- The arrays handed at launch. -/
def arrs (c : Dev nD) : sProp 𝕄 :=
  iprop(xPts m c ∗ wPts m c ∗ (((c : Thread nD τ).loc main_v1_0) ↦{fullShare} m ((c : Thread nD τ).loc main_v1_0))
    ∗ (((c : Thread nD τ).loc main_v1_1) ↦{fullShare} m ((c : Thread nD τ).loc main_v1_1))
    ∗ (((c : Thread nD τ).loc main_v1_2) ↦{fullShare} m ((c : Thread nD τ).loc main_v1_2)))

/-- What a core starts from. -/
def start (c : Dev nD) : sProp 𝕄 := iprop((∃ K, ctx m K ∗ linear c ∗ locZ c) ∗ credsOf c ∗ arrs m c)

/-- The core's own buffers, at some contents. -/
def scratch (c : Dev nD) : sProp 𝕄 :=
  iprop((some' c (cM 0) ∗ some' c (cM 1) ∗ some' c stM ∗ some' c xtM) ∗ ((some' c (wSlot 0 0) ∗ some' c (wSlot 0 1)) ∗ (some' c (wSlot 1 0) ∗ some' c (wSlot 1 1))))

def Φ₀ (c : Dev nD) : sProp 𝕄 := iprop(start m c ∗ scratch c)
/-- The arguments as they were and the result's blocks computed. -/
def outcome (c : Dev nD) : sProp 𝕄 := iprop(xPts m c ∗ wPts m c ∗ outs m c 0 16 ∗ outs m c 1 16)
def Φ₁ (c : Dev nD) : sProp 𝕄 := iprop(outcome m c ∗ scratch c ∗ ((bigSep Finset.univ fun k : CK => semVal (kcell (c, k)) 0) ∗ locZ c))

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

/-! ## The body -/

theorem scratch_eq (c : Dev nD) : (scratch c : sProp 𝕄)
    ⊣⊢ Pipeline.scopedRest (Ix := Unit) (Name := ℕ) (U := UU) (Lvl := ℕ) (Val := Elt F) (cfg0.spec) c := by
  rw [scopedRest0_eq]
  unfold scratch
  constructor
  · iintro ⟨⟨H0, H1, H2, H3⟩, H4⟩
    isplitl [H0]; · iapply (whole_of_some c cc0_scratch0); iexact H0
    isplitl [H1]; · iapply (whole_of_some c cc0_scratch1); iexact H1
    isplitl [H2]; · iapply (whole_of_some c cc0_scratch2); iexact H2
    isplitl [H3]; · iapply (whole_of_some c cc0_scratch3); iexact H3
    iapply (join_w c fun _ => Classical.arbitrary _); iexact H4
  · iintro ⟨⟨%f0, H0⟩, ⟨%f1, H1⟩, ⟨%f2, H2⟩, ⟨%f3, H3⟩, ⟨%f4, H4⟩⟩
    isplitl [H0 H1 H2 H3]
    · isplitl [H0]; · iapply (some_of_whole c cc0_scratch0 f0); iexact H0
      isplitl [H1]; · iapply (some_of_whole c cc0_scratch1 f1); iexact H1
      isplitl [H2]; · iapply (some_of_whole c cc0_scratch2 f2); iexact H2
      iapply (some_of_whole c cc0_scratch3 f3); iexact H3
    iapply (cut_w c f4); iexact H4

/-- What the region hands the body is what the body starts from. -/
theorem body_enter (c : Dev nD) : iprop(Φ₀ m c ∗ owesE c (O₀ c)) ⊢ iprop(∃ K, ctx m K ∗ bodyPre m c) := by
  unfold Φ₀ start scratch arrs
  iintro ⟨⟨⟨⟨%K, Hctx, Hlin, HZ⟩, Hcr, Hx, Hw, Ho, Hr, Hs⟩, Hc, ⟨HA, HB⟩, HC, HD⟩, HO⟩
  iexists K
  isplitl [Hctx]; · iexact Hctx
  unfold bodyPre memPre
  isplitl [Hlin]; · iexact Hlin
  isplitl [Hcr]; · iexact Hcr
  isplitl [Hx]; · iexact Hx
  isplitl [Hw]; · iexact Hw
  isplitr [HZ HO]
  · isplitl [Hr]; · iapply (cut_r c _); iexact Hr
    isplitl [Hs]; · iapply (cut_s c _); iexact Hs
    isplitl [Ho]; · iapply (cut_o m c _); iexact Ho
    isplitl [Hc]; · iexact Hc
    isplitl [HA]; · iexact HA
    isplitl [HB]; · iexact HB
    isplitl [HC]; · iexact HC
    iexact HD
  isplitl [HZ] <;> iassumption

/-- What the body ends with is what the region takes back. -/
theorem body_leave (c : Dev nD) : bodyPost m c ⊢ iprop(Φ₁ m c ∗ owesE c 0) := by
  unfold Φ₁ outcome scratch bodyPost
  iintro ⟨Hx, Hw, ⟨Ho0, Ho1⟩, Hc, ⟨HA, HB, HC, HD⟩, Hsem, HZ, HO⟩
  isplitr [HO]
  · isplitl [Hx Hw Ho0 Ho1]
    · isplitl [Hx]; · iexact Hx
      isplitl [Hw]; · iexact Hw
      isplitl [Ho0]; · iexact Ho0
      iexact Ho1
    isplitl [Hc HA HB HC HD]
    · isplitl [Hc]; · iexact Hc
      isplitl [HA HB]
      · isplitl [HA] <;> iassumption
      isplitl [HC] <;> iassumption
    isplitl [Hsem] <;> iassumption
  iexact HO

theorem no_windows (Φ : Fin cfg0.W → sProp 𝕄) : bigSep Finset.univ Φ = iprop(emp) := rfl

set_option maxRecDepth 4000 in
/-- The body at the grid's one point. -/
theorem body_obligation (c : Dev nD) : BodyObligationLoose (dats (F := F) m 0 c) (defs₀ (F := F)) 𝒱₀ () Set.univ := fun t => by
  rw [fin_N0 t, no_windows, no_windows]
  show iprop(Φ₀ m c ∗ (∃ W, ⌜_⌝ ∗ owes (c : Thread nD τ) (O₀ c) W) ∗ emp) ⊢ WP c (bodyAt0 (F := F) t0_0) fun _ => iprop(Φ₁ m c ∗ (∃ W, ⌜_⌝ ∗ owes (c : Thread nD τ) 0 W) ∗ emp)
  iintro ⟨HΦ, ⟨%W, -, HO⟩, -⟩
  ihave H := (body_enter m c) $$ [HΦ HO]
  · isplitl [HΦ]; · iexact HΦ
    iexists W; iexact HO
  icases H with ⟨%K, Hctx, Hpre⟩
  iapply (sound_body m K c _) $$ [Hctx Hpre]
  · isplitl [Hctx] <;> iassumption
  iintro Hpost
  ihave H := (body_leave m c) $$ Hpost
  icases H with ⟨HΦ, %W', HO⟩
  isplitl [HΦ]; · iexact HΦ
  isplitl [HO]
  · iexists W'
    isplitr; · ipureintro; exact fun _ _ => Or.inl trivial
    iexact HO
  iempintro

/-! ## The launch theorem's conditions -/

theorem share_eq (c : Dev nD) (w : Fin cfg0.W) : (dats m 0 c).share w = fullShare := w.elim0

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨Hm, Hlev, Hcr, -, HG⟩
  ihave Hm' := (show (Pipeline.unscopedRestP Pipeline.Prefetch.none cfg0.spec c (fun b => m ((c : Thread nD τ).loc b)) : sProp 𝕄) ⊢ arrs m c from by
    rw [Pipeline.unscopedRestP_none, unscopedRest0_eq]
    exact .rfl) $$ Hm
  ihave Hc := (creds (F := F) c) $$ Hcr
  imodintro
  unfold start G' records ctx
  icases HG with ⟨%K, ⟨HI, HR⟩, Hlin, HZ⟩
  isplitl
  · isplitl [HI HR Hlin HZ Hlev]
    · iexists K
      isplitl [HI HR Hlev]
      · isplitl [HI]; · iexact HI
        isplitl [HR] <;> iassumption
      isplitl [Hlin] <;> iassumption
    isplitl [Hc] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, Hr⟩
  isplitl [Hs]; · iexact Hs
  iapply ((scratch_eq (F := F) c).2); iexact Hr

theorem phi1_exit (c : Dev nD) :
    (dats m 0 c).Φ (Fin.last cfg0.N)
      ⊢ iprop((unscopedSems0 c ∗ outcome m c) ∗ Pipeline.ownSems0 osem c ∗ Pipeline.scopedRest cfg0.spec c) := by
  rw [show (dats m 0 c).Φ (Fin.last cfg0.N) = Φ₁ m c from rfl]
  unfold Φ₁
  iintro ⟨Ho, Hr, Hsem⟩
  ihave H := (sems_out (F := F) c) $$ Hsem
  icases H with ⟨HU, HO⟩
  isplitl [HU Ho]
  · isplitl [HU] <;> iassumption
  isplitl [HO]; · iexact HO
  iapply ((scratch_eq (F := F) c).1); iexact Hr

theorem waits (c : Dev nD) : (levAts L lv : sProp 𝕄) ⊢ Pipeline.cellsWaits cfgs (dats m) () 0 c :=
  Pipeline.cellsWaits_intro cfgs (dats m) () 0 c fun w _ _ => w.elim0

/-! ## The run -/

/-- What a core's final memory holds: the arguments unchanged, every block of the result computed. -/
def Holds (c : Dev nD) (s : (ℓ : Loc nD τ sig) → Buf (Elt F) ℓ) : Prop :=
  s ((c : Thread nD τ).loc main_arg0) = m ((c : Thread nD τ).loc main_arg0)
  ∧ s ((c : Thread nD τ).loc main_arg1) = m ((c : Thread nD τ).loc main_arg1)
  ∧ ∀ (d : Fin 2) (b : Fin 4), (oSlot d b).view.read (Elt F) (s ((c : Thread nD τ).loc main_v1_0)) = final m d c b

theorem outcome_agree (c : Dev nD) (s' : Phys nD τ sig (Elt F)) : iprop(outcome m c ∗ SI s') ⊢ (iprop(⌜Holds m c s'.mem.mem⌝ ∗ SI s') : sProp 𝕄) := by
  unfold outcome
  iintro ⟨⟨Hx, Hw, H0, H1⟩, HSI⟩
  ihave H := (whole_agree (m ((c : Thread nD τ).loc main_arg0)) s') $$ [Hx HSI]
  · isplitl [Hx] <;> iassumption
  icases H with ⟨%hx, HSI⟩
  ihave H := (whole_agree (m ((c : Thread nD τ).loc main_arg1)) s') $$ [Hw HSI]
  · isplitl [Hw] <;> iassumption
  icases H with ⟨%hw, HSI⟩
  ihave H := (outs_agree m c 0 s') $$ [H0 HSI]
  · isplitl [H0] <;> iassumption
  icases H with ⟨%h0, HSI⟩
  ihave H := (outs_agree m c 1 s') $$ [H1 HSI]
  · isplitl [H1] <;> iassumption
  icases H with ⟨%h1, HSI⟩
  isplitr
  · ipureintro
    exact ⟨hx, hw, fun d => by fin_cases d; exacts [h0, h1]⟩
  · iexact HSI

set_option maxRecDepth 8000 in
/-- From any memory with zero counters, for any float values: every weakly fair execution of @main on the four devices
    terminates, and every final state has the arguments unchanged, each block of each device's result at the contents
    computed, and every semaphore counter at zero. -/
theorem run_main : θ_run defs (onTc (τ := τ) (main (F := F))) (s₀ m ρ) (fun r => (∀ c : Dev nD, Holds m c r.2.mem) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      iintro Hu
      ihave H := u₀_split $$ Hu
      icases H with ⟨HP, HX⟩
      imod (fund_ring m) $$ HX with HG
      imodintro
      isplitl [HP] <;> iassumption)
    (hglob := glob m)
    (hA := fun _ w => w.elim0) (hpf := fun _ k => k.elim0)
    (X := start m) (Y := fun c => iprop(unscopedSems0 c ∗ outcome m c)) (Z := fun _ => iprop(emp))
    (hX := start_intro m ρ) (hin := phi0_intro m) (hout := phi1_exit m)
    (QY := fun c s => Holds m c s.mem ∧ ∀ sm : SemLoc sig, sm.isScoped .tc = false → s.sem ((c.tc : Thread nD τ), sm) = 0)
    (hY := fun c s' => by
      iintro ⟨⟨Hu, Ho⟩, -, HSI⟩
      ihave H := (outcome_agree m c s') $$ [Ho HSI]
      · isplitl [Ho] <;> iassumption
      icases H with ⟨%h, HSI⟩
      imod (Pipeline.unscopedSems0_read (X := unscopedSems0 c) (c := c) fupd_intro s') $$ [Hu HSI] with ⟨%hs, HSI⟩
      · isplitl [Hu] <;> iassumption
      imodintro
      isplitr
      · ipureintro; exact ⟨h, hs⟩
      iexact HSI)
    (hQ := fun _ h hs => ⟨fun c => (h c).2.2.1, sem_eq_zero hs fun c => (h c).2.2.2⟩)

end Cert.TwoRing

end
-- ==== Proof.Value.lean ====
/-
What the ring computes, over the extended reals: a core's partial product is a slab of 2048 terms of the whole product, the
four slabs a block collects on its way round the ring are the whole product's 8192 terms, and the result is its positive
part.
-/
module

public import proofs.«01_k».proof.Proof.Sched
public import Idealize.ShloMosaic.PureOps.Ideal.Laws
public import Idealize.ShloMosaic.Lib.MatmulPlain
public import Idealize.ShloMosaic.Lib.StackMember
public import Idealize.ShloMosaic.Lib.ValueIdx
public import Idealize.ShloMosaic.Lib.Pipeline.Value
public import Idealize.ShloMosaic.Lib.Layout

@[expose] public section

noncomputable section

namespace Cert.TwoRing

open Cert.KernelIdeal Cert.KernelIdeal.Gen

open Idealize.ShloMosaic
open Idealize.ShloMosaic.TcCoe
open Idealize.ShloMosaic.ValueIdx

variable (m : (ℓ : Loc nD τ sig) → Buf (Elt Ideal) ℓ)

/-! ## The kernel's four operations at an index -/

/-- Dropping the weights' two unit axes undoes the staging buffer's. -/
theorem cast_unsq (W : Vec Ideal S1024x2048 .f32) (h : S1x1x1024x2048.ShapeCasts S1024x2048) :
    shapeCast S1024x2048 (unsq W) h = W := by
  funext j
  show W ((Shape.reshapeEquiv squeezes_S1x1x1024x2048_S1024x2048.numel_eq).symm (Shape.reshapeEquiv _ j)) = W j
  exact congrArg W (Equiv.symm_apply_apply _ j)

/-- The first half of a partial product. -/
theorem pay1_apply (x : Vec Ideal S512x1024 .f32) (W : Vec Ideal S1024x2048 .f32) (r : Fin 512) (j : Fin 2048) :
    k0_pay1 x (unsq W) (ix2 r j) = ∑ k : Fin 1024, x (ix2 r k) * W (ix2 k j) := by
  unfold k0_pay1
  rw [shapeCast_self, cast_unsq]
  refine (Ideal.matmul_plain_apply none x W _ r j).trans ?_
  show Ideal.ofBits .f32 0x00000000#32 + _ = _
  rw [Ideal.ofBits_zero_f32, zero_add]

/-- The second half, added to the first. -/
theorem pay2_apply (x : Vec Ideal S512x1024 .f32) (W : Vec Ideal S1024x2048 .f32) (a : Vec Ideal S512x2048 .f32) (r : Fin 512) (j : Fin 2048) :
    k0_pay2 x (unsq W) a (ix2 r j) = a (ix2 r j) + ∑ k : Fin 1024, x (ix2 r k) * W (ix2 k j) := by
  unfold k0_pay2
  rw [shapeCast_self, cast_unsq]
  show a (ix2 r j) + _ = _
  refine congrArg (a (ix2 r j) + ·) ((Ideal.matmul_plain_apply none x W _ r j).trans ?_)
  show Ideal.ofBits .f32 0x00000000#32 + _ = _
  rw [Ideal.ofBits_zero_f32, zero_add]

/-- A hop adds what came along the ring. -/
theorem pay3_apply (p a : Vec Ideal S512x2048 .f32) (i : S512x2048.Idx) : k0_pay3 p a i = p i + a i := by
  unfold k0_pay3
  rw [shapeCast_self]
  rfl

/-- The last hop also takes the positive part. -/
theorem pay4_apply (p a : Vec Ideal S512x2048 .f32) (i : S512x2048.Idx) : k0_pay4 p a i = max (p i + a i) 0 := by
  unfold k0_pay4
  rw [shapeCast_self]
  show max (p i + a i) (Ideal.ofBits .f32 0x00000000#32) = _
  rw [Ideal.ofBits_zero_f32]

/-! ## The tiles at an index -/

/-- A tile of `x`, by coordinates of the device's block. -/
theorem xt_apply (d : Fin 2) (c : Dev nD) (i : ℕ) (kt : Fin 2) (r : Fin 512) (k : Fin 1024) :
    xt m d c i kt (ix2 r k) = m ((c : Thread nD τ).loc main_arg0)
      (ix2 (⟨xRow d c i + r.val, by have := xRow_le d c i; omega⟩ : Fin 8192) (⟨1024 * kt.val + k.val, by omega⟩ : Fin 2048)) := by
  unfold xt
  rw [View.read_apply]
  show m _ _ = m _ _
  congr 1
  funext a
  apply Fin.ext
  match a with
  | ⟨0, _⟩ => show xRow d c i + 1 * r.val = _; rw [Nat.one_mul]
  | ⟨1, _⟩ => show 1024 * kt.val + 1 * k.val = _; rw [Nat.one_mul]

/-- A tile of the weights, by coordinates of the device's block. -/
theorem wt_apply (d : Fin 2) (c : Dev nD) (kt : Fin 2) (k : Fin 1024) (j : Fin 2048) :
    wt m d c kt (ix2 k j) = m ((c : Thread nD τ).loc main_arg1)
      (ix2 (⟨1024 * kt.val + k.val, by omega⟩ : Fin 2048) (⟨2048 * d.val + j.val, by omega⟩ : Fin 4096)) := by
  unfold wt
  rw [View.read_apply]
  show m _ _ = m _ _
  congr 1
  funext a
  apply Fin.ext
  match a with
  | ⟨0, _⟩ => show 1024 * kt.val + 1 * k.val = _; rw [Nat.one_mul]
  | ⟨1, _⟩ => show 2048 * d.val + 1 * j.val = _; rw [Nat.one_mul]

/-! ## The whole arrays -/

variable (X : (⟨2, ![8192, 8192]⟩ : Shape).Idx → EReal) (W : (⟨2, ![8192, 4096]⟩ : Shape).Idx → EReal)

/-- Term `k` of the whole product at row `r`, column `l`; nothing beyond the last. -/
def term (r : Fin 8192) (l : Fin 4096) (k : ℕ) : EReal :=
  if h : k < 8192 then X (ix2 r ⟨k, h⟩) * W (ix2 ⟨k, h⟩ l) else 0

/-- Device `c`'s 2048 terms. -/
def slab (r : Fin 8192) (l : Fin 4096) (c : Dev nD) : EReal := ∑ k ∈ Finset.range 2048, term X W r l (2048 * c.val + k)

/-- The four devices' terms are all of them. -/
theorem slab_sum (r : Fin 8192) (l : Fin 4096) :
    slab X W r l 0 + slab X W r l 1 + slab X W r l 2 + slab X W r l 3 = ∑ k : Fin 8192, X (ix2 r k) * W (ix2 k l) := by
  have h : ∑ k : Fin 8192, X (ix2 r k) * W (ix2 k l) = ∑ k ∈ Finset.range (2048 + 2048 + 2048 + 2048), term X W r l k := by
    rw [← Fin.sum_univ_eq_sum_range]
    refine Finset.sum_congr rfl fun k _ => ?_
    unfold term
    rw [dif_pos k.isLt]
  rw [h, Finset.sum_range_add, Finset.sum_range_add, Finset.sum_range_add]
  unfold slab
  simp only [show ((0 : Dev nD).val) = 0 from rfl, show ((1 : Dev nD).val) = 1 from rfl, show ((2 : Dev nD).val) = 2 from rfl,
    show ((3 : Dev nD).val) = 3 from rfl, Nat.mul_zero, Nat.zero_add, Nat.mul_one, Nat.reduceMul, Nat.reduceAdd]

/-- Every device's arguments are its blocks of the whole arrays. -/
def Dealt : Prop := ∀ c : Dev nD,
  m ((c : Thread nD τ).loc main_arg0) = Layout.block ⟨2, ![8192, 2048]⟩ ⟨2, ![8192, 8192]⟩ 1 4 c X
  ∧ m ((c : Thread nD τ).loc main_arg1) = Layout.block ⟨2, ![2048, 4096]⟩ ⟨2, ![8192, 4096]⟩ 0 4 c W

variable {m X W}

/-- One tile's product at an index: 1024 consecutive terms. -/
theorem half_apply (hD : Dealt m X W) (d : Fin 2) (c : Dev nD) (i : ℕ) (kt : Fin 2) (r : Fin 512) (j : Fin 2048) (R : Fin 8192)
    (hR : R.val = xRow d c i + r.val) (l : Fin 4096) (hl : l.val = 2048 * d.val + j.val) :
    ∑ k : Fin 1024, xt m d c i kt (ix2 r k) * wt m d c kt (ix2 k j)
      = ∑ k ∈ Finset.range 1024, term X W R l (2048 * c.val + (1024 * kt.val + k)) := by
  have hc : c.val < 4 := c.isLt
  have hkt := kt.isLt
  rw [← Fin.sum_univ_eq_sum_range (fun k => term X W R l (2048 * c.val + (1024 * kt.val + k)))]
  refine Finset.sum_congr rfl fun k _ => ?_
  have hk : 2048 * c.val + (1024 * kt.val + k.val) < 8192 := by omega
  rw [xt_apply, wt_apply, (hD c).1, (hD c).2, Layout.block_apply, Layout.block_apply]
  unfold term
  rw [dif_pos hk]
  refine congrArg₂ (· * ·) (congrArg X ?_) (congrArg W ?_)
  · funext a
    apply Fin.ext
    match a with
    | ⟨0, _⟩ => exact hR.symm
    | ⟨1, _⟩ => show c.val * 2048 + (1024 * kt.val + k.val) = 2048 * c.val + (1024 * kt.val + k.val); omega
  · funext a
    apply Fin.ext
    match a with
    | ⟨0, _⟩ => show c.val * 2048 + (1024 * kt.val + k.val) = 2048 * c.val + (1024 * kt.val + k.val); omega
    | ⟨1, _⟩ => exact hl.symm

/-- A core's partial product at an index: its slab of the whole product. -/
theorem part_apply (hD : Dealt m X W) (d : Fin 2) (c : Dev nD) (i : ℕ) (r : Fin 512) (j : Fin 2048) (R : Fin 8192)
    (hR : R.val = xRow d c i + r.val) (l : Fin 4096) (hl : l.val = 2048 * d.val + j.val) :
    part m d c i (ix2 r j) = slab X W R l c := by
  unfold part
  rw [pay2_apply, pay1_apply, half_apply hD d c i 0 r j R hR l hl, half_apply hD d c i 1 r j R hR l hl]
  unfold slab
  rw [show (2048 : ℕ) = 1024 + 1024 from rfl, Finset.sum_range_add]
  simp only [show ((0 : Fin 2).val) = 0 from rfl, show ((1 : Fin 2).val) = 1 from rfl, Nat.mul_zero, Nat.zero_add, Nat.mul_one]

/-! ## Round the ring -/

/-- On the way round, every partial product added to a block is of the rows of the device it ends on. -/
theorem xRow_last (d : Fin 2) (c : Dev nD) (b : Fin 4) : xRow d c (12 + b.val) = 2048 * c.val + 512 * b.val := by
  revert d c b; decide
theorem xRow_third (d : Fin 2) (c : Dev nD) (b : Fin 4) : xRow d (sour d c) (8 + b.val) = 2048 * c.val + 512 * b.val := by
  revert d c b; decide
theorem xRow_second (d : Fin 2) (c : Dev nD) (b : Fin 4) : xRow d (sour d (sour d c)) (4 + b.val) = 2048 * c.val + 512 * b.val := by
  revert d c b; decide
theorem xRow_first (d : Fin 2) (c : Dev nD) (b : Fin 4) : xRow d (sour d (sour d (sour d c))) b.val = 2048 * c.val + 512 * b.val := by
  revert d c b; decide

/-- A sum over the devices, taken backwards along direction `d` from any of them. -/
theorem round_sum (f : Dev nD → EReal) (d : Fin 2) (c : Dev nD) :
    f c + (f (sour d c) + (f (sour d (sour d c)) + f (sour d (sour d (sour d c))))) = f 0 + f 1 + f 2 + f 3 := by
  have h : ∀ (d : Fin 2) (c : Dev nD), (c = 0 ∧ sour d c = 1 ∧ sour d (sour d c) = 2 ∧ sour d (sour d (sour d c)) = 3)
      ∨ (c = 1 ∧ sour d c = 2 ∧ sour d (sour d c) = 3 ∧ sour d (sour d (sour d c)) = 0)
      ∨ (c = 2 ∧ sour d c = 3 ∧ sour d (sour d c) = 0 ∧ sour d (sour d (sour d c)) = 1)
      ∨ (c = 3 ∧ sour d c = 0 ∧ sour d (sour d c) = 1 ∧ sour d (sour d (sour d c)) = 2)
      ∨ (c = 0 ∧ sour d c = 3 ∧ sour d (sour d c) = 2 ∧ sour d (sour d (sour d c)) = 1)
      ∨ (c = 1 ∧ sour d c = 0 ∧ sour d (sour d c) = 3 ∧ sour d (sour d (sour d c)) = 2)
      ∨ (c = 2 ∧ sour d c = 1 ∧ sour d (sour d c) = 0 ∧ sour d (sour d (sour d c)) = 3)
      ∨ (c = 3 ∧ sour d c = 2 ∧ sour d (sour d c) = 1 ∧ sour d (sour d (sour d c)) = 0) := by decide
  rcases h d c with h | h | h | h | h | h | h | h <;> rw [h.2.2.2, h.2.2.1, h.2.1, h.1] <;> ac_rfl

/-- What comes along the ring to the last hop. -/
theorem sent_two (d : Fin 2) (c : Dev nD) (b : Fin 4) (i : S512x2048.Idx) :
    sent m d (sour d c) (8 + b.val) i
      = part m d (sour d c) (8 + b.val) i + (part m d (sour d (sour d c)) (4 + b.val) i + part m d (sour d (sour d (sour d c))) b.val i) := by
  have hb := b.isLt
  rw [sent_late _ _ _ _ (by omega), pay3_apply, show 8 + b.val - 4 = 4 + b.val by omega, sent_late _ _ _ _ (by omega), pay3_apply,
    show 4 + b.val - 4 = b.val by omega, sent_early _ _ _ _ hb]

/-- A block of the result at an index: the positive part of the whole product there. -/
theorem final_apply (hD : Dealt m X W) (d : Fin 2) (c : Dev nD) (b : Fin 4) (r : Fin 512) (j : Fin 2048) (R : Fin 8192)
    (hR : R.val = 2048 * c.val + 512 * b.val + r.val) (l : Fin 4096) (hl : l.val = 2048 * d.val + j.val) :
    final m d c b (ix2 r j) = max (∑ k : Fin 8192, X (ix2 R k) * W (ix2 k l)) 0 := by
  unfold final
  rw [pay4_apply, sent_two,
    part_apply hD d c _ r j R (by rw [xRow_last]; exact hR) l hl,
    part_apply hD d (sour d c) _ r j R (by rw [xRow_third]; exact hR) l hl,
    part_apply hD d (sour d (sour d c)) _ r j R (by rw [xRow_second]; exact hR) l hl,
    part_apply hD d (sour d (sour d (sour d c))) _ r j R (by rw [xRow_first]; exact hR) l hl,
    round_sum (slab X W R l), slab_sum]

/-! ## The result array -/

/-- An array whose eight blocks read as the ring leaves them is the device's rows of the positive part of the whole product. -/
theorem out_eq (hD : Dealt m X W) (c : Dev nD) (O : S2048x4096.Idx → EReal)
    (hO : ∀ (d : Fin 2) (b : Fin 4), (oSlot d b).view.read (Elt Ideal) O = final m d c b)
    (Y : (⟨2, ![8192, 4096]⟩ : Shape).Idx → EReal) (hY : ∀ r l, Y (ix2 r l) = max (∑ k : Fin 8192, X (ix2 r k) * W (ix2 k l)) 0) :
    O = Layout.block ⟨2, ![2048, 4096]⟩ ⟨2, ![8192, 4096]⟩ 0 4 c Y := by
  funext i
  obtain ⟨p, q, rfl⟩ : ∃ (p : Fin 2048) (q : Fin 4096), i = ix2 p q := ⟨i 0, i 1, eq_ix2 i⟩
  have hc : c.val < 4 := c.isLt
  have hp := p.isLt
  have hq := q.isLt
  have hr := congrFun (hO ⟨q.val / 2048, by omega⟩ ⟨p.val / 512, by omega⟩)
    (ix2 (⟨p.val % 512, Nat.mod_lt _ (by decide)⟩ : Fin 512) (⟨q.val % 2048, Nat.mod_lt _ (by decide)⟩ : Fin 2048))
  rw [final_apply hD _ c _ _ _ (⟨2048 * c.val + p.val, by omega⟩ : Fin 8192)
    (by show 2048 * c.val + p.val = 2048 * c.val + 512 * (p.val / 512) + p.val % 512; omega) q
    (by show q.val = 2048 * (q.val / 2048) + q.val % 2048; omega), ← hY, View.read_apply] at hr
  rw [Layout.block_apply]
  refine Eq.trans (congrArg O ?_) (hr.trans (congrArg Y ?_))
  · funext a
    apply Fin.ext
    match a with
    | ⟨0, _⟩ => show p.val = 512 * (p.val / 512) + 1 * (p.val % 512); omega
    | ⟨1, _⟩ => show q.val = 2048 * (q.val / 2048) + 1 * (q.val % 2048); omega
  · funext a
    apply Fin.ext
    match a with
    | ⟨0, _⟩ => show 2048 * c.val + p.val = c.val * 2048 + p.val; omega
    | ⟨1, _⟩ => rfl

end Cert.TwoRing

end
-- ==== Proof.lean ====
/-
The claims about the two-way ring kernel and its reference.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Value
public import Idealize.ShloMosaic.Lib.Quiescent

@[expose] public section

noncomputable section

namespace Cert.Proof

open Idealize.ShloMosaic Idealize.ShloMosaic.ValueIdx Idealize.ShloMosaic.TcCoe Idealize.SL.Sem

/-- The kernel as printed terminates, leaves its arguments unchanged and every semaphore counter at zero. -/
theorem frame_kernel : Cert.quiescent_Kernel := fun m ρ _ =>
  (θ_run (Cert.KernelIdeal.defs (F := Bits)) _ _).mono
    (fun _ h => ⟨fun c => ⟨(h.1 c).1, (h.1 c).2.1⟩, h.2⟩) (Cert.TwoRing.run_main (F := Bits) m ρ)

/-- So does the kernel over the extended reals. -/
theorem frame_ideal : Cert.quiescent_KernelIdeal := fun m ρ _ =>
  (θ_run (Cert.KernelIdeal.defs (F := Ideal)) _ _).mono
    (fun _ h => ⟨fun c => ⟨(h.1 c).1, (h.1 c).2.1⟩, h.2⟩) (Cert.TwoRing.run_main (F := Ideal) m ρ)

/-- The reference is a straight line of host operations that declares no semaphore: it leaves its arguments unchanged. -/
theorem frame_reference : Cert.quiescent_ReferenceIdeal := fun m ρ _ =>
  (θ_run (Cert.ReferenceIdeal.defs (F := Ideal)) _ _).mono
    (fun r h => ⟨fun c => (h c).2, Idealize.ShloMosaic.sem_eq_zero_of_no_sems (by decide) r.2⟩)
    (Cert.ReferenceIdeal.Value.run (F := Ideal) m ρ)

/-- The reference's result at an index: the positive part of the product there. -/
theorem reference_apply (X : (⟨2, ![8192, 8192]⟩ : Shape).Idx → EReal) (W : (⟨2, ![8192, 4096]⟩ : Shape).Idx → EReal) (r : Fin 8192) (l : Fin 4096) :
    (maximumf (F := Ideal) (φ := .f32) (Host.dotGeneral (φ₁ := .f32) (φ₂ := .f32) Cert.ReferenceIdeal.dot_S8192x8192_S8192x4096_S8192x4096_1_0_0_1_n_n none
        (X : FVec Ideal Cert.ReferenceIdeal.S8192x8192 .f32) (W : FVec Ideal Cert.ReferenceIdeal.S8192x4096 .f32) : FVec Ideal Cert.ReferenceIdeal.S8192x4096 .f32)
      (broadcastInDim Cert.ReferenceIdeal.S8192x4096 ![] Cert.ReferenceIdeal.Facts₀.bcast_S_S8192x4096 (constant Cert.ReferenceIdeal.S_ .f32 0x00000000#32)))
        (ix2 r l) = max (∑ k : Fin 8192, X (ix2 r k) * W (ix2 k l)) 0 := by
  rw [ValueIdx.maximumf_apply]
  refine congrArg₂ max (StackMember.dotGeneral_plain_apply none _ _ r l) ?_
  show Ideal.ofBits .f32 0x00000000#32 = 0
  exact Ideal.ofBits_zero_f32

/-- Run over the extended reals, every device of the kernel ends with its rows of what the reference ends with: the
    positive part of the product of the whole arrays. -/
theorem algebraic_kernel : Cert.algebraic_KernelIdeal_ReferenceIdeal := by
  intro m g m' g' _ hag
  refine ⟨_, ?_, (θ_run (Cert.ReferenceIdeal.defs (F := Ideal)) _ _).mono (fun _ h => h 0) (Cert.ReferenceIdeal.Value.run (F := Ideal) m' g')⟩
  refine (θ_run (Cert.KernelIdeal.defs (F := Ideal)) _ _).mono (fun r h c => ⟨?_, (h.1 c).1, (h.1 c).2.1⟩) (Cert.TwoRing.run_main (F := Ideal) m g)
  exact Cert.TwoRing.out_eq (fun c => hag c) c _ (h.1 c).2.2 _ (fun r l => reference_apply _ _ r l)

/-- All that the statement certifies, together. -/
theorem claim : Cert.Claim := ⟨Cert.Kernel.Gen.facts, Cert.KernelIdeal.Gen.facts, Cert.ReferenceIdeal.Gen.facts,
  frame_kernel, frame_ideal, frame_reference, trivial, algebraic_kernel⟩

end Cert.Proof

end
